-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1 : Shape := ⟨1, ![1]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) (main_arg2 : FVec F S128x128 .f32) (main_arg3 : FVec F S128 .f32) (main_arg4 : FVec F S128x128 .f32) (main_arg5 : FVec F S128 .f32) (main_arg6 : FVec F S128 .f32) (main_arg7 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 10000#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1 : Shape := ⟨1, ![1]⟩
abbrev S125 : Shape := ⟨1, ![125]⟩
abbrev S_ : Shape := ⟨0, ![]⟩
abbrev S125x1x2560 : Shape := ⟨3, ![125, 1, 2560]⟩
abbrev S10240x128 : Shape := ⟨2, ![10240, 128]⟩
abbrev S1x128 : Shape := ⟨2, ![1, 128]⟩
abbrev S1x1 : Shape := ⟨2, ![1, 1]⟩
abbrev S2560x128 : Shape := ⟨2, ![2560, 128]⟩
abbrev S1x1x2560 : Shape := ⟨3, ![1, 1, 2560]⟩
abbrev S1x2560 : Shape := ⟨2, ![1, 2560]⟩
abbrev S128x2560 : Shape := ⟨2, ![128, 2560]⟩
abbrev S2560 : Shape := ⟨1, ![2560]⟩
abbrev S2560x1 : Shape := ⟨2, ![2560, 1]⟩

abbrev nBuf : Space → Nat
  | .hbm => 62
  | .vmem => 21
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1, .f32⟩
  | .hbm, ⟨8, _⟩ => ⟨S125, .i32⟩
  | .hbm, ⟨9, _⟩ => ⟨S125, .i32⟩
  | .hbm, ⟨10, _⟩ => ⟨S_, .i32⟩
  | .hbm, ⟨11, _⟩ => ⟨S_, .i32⟩
  | .hbm, ⟨12, _⟩ => ⟨S125, .i32⟩
  | .hbm, ⟨13, _⟩ => ⟨S125, .i32⟩
  | .hbm, ⟨14, _⟩ => ⟨S125, .i32⟩
  | .hbm, ⟨15, _⟩ => ⟨S_, .i32⟩
  | .hbm, ⟨16, _⟩ => ⟨S125, .i32⟩
  | .hbm, ⟨17, _⟩ => ⟨S125, .i1⟩
  | .hbm, ⟨18, _⟩ => ⟨S125, .i32⟩
  | .hbm, ⟨19, _⟩ => ⟨S125, .i32⟩
  | .hbm, ⟨20, _⟩ => ⟨S_, .i32⟩
  | .hbm, ⟨21, _⟩ => ⟨S125, .i32⟩
  | .hbm, ⟨22, _⟩ => ⟨S125, .i1⟩
  | .hbm, ⟨23, _⟩ => ⟨S125, .i1⟩
  | .hbm, ⟨24, _⟩ => ⟨S_, .i32⟩
  | .hbm, ⟨25, _⟩ => ⟨S125, .i32⟩
  | .hbm, ⟨26, _⟩ => ⟨S125, .i32⟩
  | .hbm, ⟨27, _⟩ => ⟨S125, .i32⟩
  | .hbm, ⟨28, _⟩ => ⟨S_, .i32⟩
  | .hbm, ⟨29, _⟩ => ⟨S125, .i32⟩
  | .hbm, ⟨30, _⟩ => ⟨S125, .i32⟩
  | .hbm, ⟨31, _⟩ => ⟨S_, .i32⟩
  | .hbm, ⟨32, _⟩ => ⟨S_, .i32⟩
  | .hbm, ⟨33, _⟩ => ⟨S125, .i32⟩
  | .hbm, ⟨34, _⟩ => ⟨S125, .i32⟩
  | .hbm, ⟨35, _⟩ => ⟨S125, .i32⟩
  | .hbm, ⟨36, _⟩ => ⟨S_, .i32⟩
  | .hbm, ⟨37, _⟩ => ⟨S125, .i32⟩
  | .hbm, ⟨38, _⟩ => ⟨S125, .i1⟩
  | .hbm, ⟨39, _⟩ => ⟨S125, .i32⟩
  | .hbm, ⟨40, _⟩ => ⟨S125, .i32⟩
  | .hbm, ⟨41, _⟩ => ⟨S_, .i32⟩
  | .hbm, ⟨42, _⟩ => ⟨S125, .i32⟩
  | .hbm, ⟨43, _⟩ => ⟨S125, .i1⟩
  | .hbm, ⟨44, _⟩ => ⟨S125, .i1⟩
  | .hbm, ⟨45, _⟩ => ⟨S_, .i32⟩
  | .hbm, ⟨46, _⟩ => ⟨S125, .i32⟩
  | .hbm, ⟨47, _⟩ => ⟨S125, .i32⟩
  | .hbm, ⟨48, _⟩ => ⟨S125, .i32⟩
  | .hbm, ⟨49, _⟩ => ⟨S_, .i32⟩
  | .hbm, ⟨50, _⟩ => ⟨S125, .i32⟩
  | .hbm, ⟨51, _⟩ => ⟨S125x1x2560, .i32⟩
  | .hbm, ⟨52, _⟩ => ⟨S128x128, .f32⟩
  | .hbm, ⟨53, _⟩ => ⟨S128x128, .f32⟩
  | .hbm, ⟨54, _⟩ => ⟨S128x128, .bf16⟩
  | .hbm, ⟨55, _⟩ => ⟨S10240x128, .f32⟩
  | .hbm, ⟨56, _⟩ => ⟨S320000x128, .bf16⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x1, .f32⟩
  | .hbm, ⟨61, _⟩ => ⟨S320000x128, .f32⟩
  | .local _ .vmem, ⟨0, _⟩ => ⟨S2560x128, .f32⟩
  | .local _ .vmem, ⟨1, _⟩ => ⟨S2560x128, .f32⟩
  | .local _ .vmem, ⟨2, _⟩ => ⟨S1x1x2560, .i32⟩
  | .local _ .vmem, ⟨3, _⟩ => ⟨S1x1x2560, .i32⟩
  | .local _ .vmem, ⟨4, _⟩ => ⟨S128x128, .f32⟩
  | .local _ .vmem, ⟨5, _⟩ => ⟨S10240x128, .f32⟩
  | .local _ .vmem, ⟨6, _⟩ => ⟨S2560x128, .bf16⟩
  | .local _ .vmem, ⟨7, _⟩ => ⟨S2560x128, .bf16⟩
  | .local _ .vmem, ⟨8, _⟩ => ⟨S10240x128, .f32⟩
  | .local _ .vmem, ⟨9, _⟩ => ⟨S2560x128, .bf16⟩
  | .local _ .vmem, ⟨10, _⟩ => ⟨S2560x128, .bf16⟩
  | .local _ .vmem, ⟨11, _⟩ => ⟨S1x1x2560, .i32⟩
  | .local _ .vmem, ⟨12, _⟩ => ⟨S1x1x2560, .i32⟩
  | .local _ .vmem, ⟨13, _⟩ => ⟨S10240x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x1, .f32⟩
  | .local _ .vmem, ⟨19, _⟩ => ⟨S2560x128, .f32⟩
  | .local _ .vmem, ⟨20, _⟩ => ⟨S2560x128, .f32⟩
  | .local _ .smem, ⟨0, _⟩ => ⟨S125, .i32⟩
  | .local _ .smem, ⟨1, _⟩ => ⟨S125, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_c : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_c : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_c_0 : Ref sig .tc := ⟨.hbm, 24, rfl⟩
abbrev main_call0_call0_v12 : Ref sig .tc := ⟨.hbm, 25, rfl⟩
abbrev main_call0_call0_v13 : Ref sig .tc := ⟨.hbm, 26, rfl⟩
abbrev main_call0_v2 : Ref sig .tc := ⟨.hbm, 27, rfl⟩
abbrev main_call0_c_0 : Ref sig .tc := ⟨.hbm, 28, rfl⟩
abbrev main_call0_v3 : Ref sig .tc := ⟨.hbm, 29, rfl⟩
abbrev main_call0_v5 : Ref sig .tc := ⟨.hbm, 30, rfl⟩
abbrev main_call0_c_1 : Ref sig .tc := ⟨.hbm, 31, rfl⟩
abbrev main_call0_call1_v0 : Ref sig .tc := ⟨.hbm, 32, rfl⟩
abbrev main_call0_call1_v1 : Ref sig .tc := ⟨.hbm, 33, rfl⟩
abbrev main_call0_call1_v2 : Ref sig .tc := ⟨.hbm, 34, rfl⟩
abbrev main_call0_call1_v3 : Ref sig .tc := ⟨.hbm, 35, rfl⟩
abbrev main_call0_call1_v4 : Ref sig .tc := ⟨.hbm, 36, rfl⟩
abbrev main_call0_call1_v5 : Ref sig .tc := ⟨.hbm, 37, rfl⟩
abbrev main_call0_call1_v6 : Ref sig .tc := ⟨.hbm, 38, rfl⟩
abbrev main_call0_call1_v7 : Ref sig .tc := ⟨.hbm, 39, rfl⟩
abbrev main_call0_call1_v8 : Ref sig .tc := ⟨.hbm, 40, rfl⟩
abbrev main_call0_call1_c : Ref sig .tc := ⟨.hbm, 41, rfl⟩
abbrev main_call0_call1_v9 : Ref sig .tc := ⟨.hbm, 42, rfl⟩
abbrev main_call0_call1_v10 : Ref sig .tc := ⟨.hbm, 43, rfl⟩
abbrev main_call0_call1_v11 : Ref sig .tc := ⟨.hbm, 44, rfl⟩
abbrev main_call0_call1_c_0 : Ref sig .tc := ⟨.hbm, 45, rfl⟩
abbrev main_call0_call1_v12 : Ref sig .tc := ⟨.hbm, 46, rfl⟩
abbrev main_call0_call1_v13 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13_0 : Ref sig .tc := ⟨.hbm, 55, rfl⟩
abbrev main_call0_v13_1 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_call0_v17 : Ref sig .tc := ⟨.hbm, 60, rfl⟩
abbrev main_v0 : Ref sig .tc := ⟨.hbm, 61, rfl⟩
abbrev main_call0_v4 : Ref sig .tc := ⟨.smem, 0, rfl⟩
abbrev main_call0_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19

abbrev nD : Nat := 1
abbrev τ : Topo := Topo.v7x

variable {F : FTy → Type} [FloatOps F]

abbrev grid0 : Pipeline.Grid := ⟨1, ![125], ![false]⟩

abbrev pre0 : Pipeline.Prefetch sig := ⟨2, ![main_call0_v4.idx, main_call0_v8.idx], fun | 0 => main_call0_v4.names | 1 => main_call0_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v6 : BitVec 32) : Scf.Loop 32 :=
  let c0_i32_7 : BitVec 32 := 0#32
  let v12 : BitVec 32 := Scalar.subi v6 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_9 : BitVec 32 := 1#32
  ⟨c0_i32_7, v16, c1_i32_9⟩

def k0_off2 (v4 : BitVec 32) (v6 : BitVec 32) (k0_t1 : Fin (k0_t1_loop v6).trips) : Fin 2 → Nat :=
  let c0_i32_7 : BitVec 32 := 0#32
  let c1_i32_9 : BitVec 32 := 1#32
  let arg9 : BitVec 32 := Scf.iv c0_i32_7 c1_i32_9 k0_t1
  let c128_i32 : BitVec 32 := 128#32
  let v22 : BitVec 32 := Scalar.muli arg9 c128_i32
  let v23 : BitVec 32 := Scalar.addi v4 v22
  let v33 : Index := Scalar.indexCast v23
  let c0_13 : Index := 0#32
  ![v33.toNat, 0]
@[reducible] def k0_t2_loop (v6 : BitVec 32) : Scf.Loop 32 :=
  let c0_i32_7 : BitVec 32 := 0#32
  let v12 : BitVec 32 := Scalar.subi v6 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let v13 : BitVec 32 := Scalar.addi c0_i32_7 v12
  let c1_i32_10 : BitVec 32 := 1#32
  ⟨v16, v13, c1_i32_10⟩
def k0_off3 (v4 : BitVec 32) (v6 : BitVec 32) (k0_t2 : Fin (k0_t2_loop v6).trips) : Fin 2 → Nat :=
  let c0_i32_7 : BitVec 32 := 0#32
  let v12 : BitVec 32 := Scalar.subi v6 c0_i32_7
  let c1_i32 : BitVec 32 := 1#32
  let v14 : BitVec 32 := Scalar.divsi v12 c1_i32
  let v15 : BitVec 32 := Scalar.muli v14 c1_i32
  let v16 : BitVec 32 := Scalar.addi c0_i32_7 v15
  let c1_i32_10 : BitVec 32 := 1#32
  let arg9 : BitVec 32 := Scf.iv v16 c1_i32_10 k0_t2
  let c128_i32 : BitVec 32 := 128#32
  let v22 : BitVec 32 := Scalar.muli arg9 c128_i32
  let v23 : BitVec 32 := Scalar.addi v4 v22
  let v33 : Index := Scalar.indexCast v23
  let c0_13 : Index := 0#32
  ![v33.toNat, 0]

def k0_chk1 (v4 : BitVec 32) (v6 : BitVec 32) : Prop :=
  ((k0_t1_loop v6).OK) ∧
  (∀ k0_t1 : Fin (k0_t1_loop v6).trips, ∀ a, (k0_off2 v4 v6 k0_t1) a + S128x128.size a ≤ S10240x128.size a) ∧
  ((k0_t2_loop v6).OK) ∧
  (∀ k0_t2 : Fin (k0_t2_loop v6).trips, ∀ a, (k0_off3 v4 v6 k0_t2) a + S128x128.size a ≤ S10240x128.size a)
theorem k0_t1_ok : ∀ (v4 : BitVec 32) (v6 : BitVec 32) (k0_hw1 : k0_chk1 v4 v6), (k0_t1_loop v6).OK := fun v4 v6 k0_hw1 => k0_hw1.1
theorem k0_off2_inb : ∀ (v4 : BitVec 32) (v6 : BitVec 32) (k0_hw1 : k0_chk1 v4 v6) (k0_t1 : Fin (k0_t1_loop v6).trips), ∀ a, (k0_off2 v4 v6 k0_t1) a + S128x128.size a ≤ S10240x128.size a := fun v4 v6 k0_hw1 k0_t1 => k0_hw1.2.1 k0_t1
theorem k0_t2_ok : ∀ (v4 : BitVec 32) (v6 : BitVec 32) (k0_hw1 : k0_chk1 v4 v6), (k0_t2_loop v6).OK := fun v4 v6 k0_hw1 => k0_hw1.2.2.1
theorem k0_off3_inb : ∀ (v4 : BitVec 32) (v6 : BitVec 32) (k0_hw1 : k0_chk1 v4 v6) (k0_t2 : Fin (k0_t2_loop v6).trips), ∀ a, (k0_off3 v4 v6 k0_t2) a + S128x128.size a ≤ S10240x128.size a := fun v4 v6 k0_hw1 k0_t2 => k0_hw1.2.2.2 k0_t2

def k0_cond2 (i : grid0.Coords) : BitVec 1 :=
  let arg0 : BitVec 32 := BitVec.ofNat 32 (i 0).val
  let c124_i32 : BitVec 32 := 124#32
  let v19 : BitVec 1 := Scalar.cmpi .eq arg0 c124_i32
  let v20 : BitVec 32 := Scalar.extui v19
  let c0_i32_11 : BitVec 32 := 0#32
  let v21 : BitVec 1 := Scalar.cmpi .ne v20 c0_i32_11
  v21

@[reducible] def k0_t3_loop : Scf.Loop 32 :=
  let c0_i32_12 : BitVec 32 := 0#32
  let c4_i32 : BitVec 32 := 4#32
  let v22 : BitVec 32 := Scalar.addi c0_i32_12 c4_i32
  let c1_i32_13 : BitVec 32 := 1#32
  ⟨c0_i32_12, v22, c1_i32_13⟩
def k0_off4 (k0_t3 : Fin k0_t3_loop.trips) : Fin 2 → Nat :=
  let c0_i32_12 : BitVec 32 := 0#32
  let c1_i32_13 : BitVec 32 := 1#32
  let arg9 : BitVec 32 := Scf.iv c0_i32_12 c1_i32_13 k0_t3
  let c2560_i32 : BitVec 32 := 2560#32
  let v23 : BitVec 32 := Scalar.muli arg9 c2560_i32
  let v24 : Index := Scalar.indexCast v23
  let c0_15 : Index := 0#32
  ![v24.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2560 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

abbrev pre1 : Pipeline.Prefetch sig := ⟨2, ![main_call0_v4.idx, main_call0_v8.idx], fun | 0 => main_call0_v4.names | 1 => main_call0_v8.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 2 → Nat :=
  let v24 : Index := Scalar.indexCast v1
  let c0_10 : Index := 0#32
  ![v24.toNat, 0]

def k1_chk1 (v1 : BitVec 32) : Prop :=
  (∀ a, (k1_off2 v1) a + S128x128.size a ≤ S10240x128.size a)
theorem k1_off2_inb : ∀ (v1 : BitVec 32) (k1_hw1 : k1_chk1 v1), ∀ a, (k1_off2 v1) a + S128x128.size a ≤ S10240x128.size a := fun v1 k1_hw1 => k1_hw1

@[reducible] def k1_t1_loop (v3 : BitVec 32) : Scf.Loop 32 :=
  let c1_i32 : BitVec 32 := 1#32
  let v31 : BitVec 32 := Scalar.subi v3 c1_i32
  let c1_i32_14 : BitVec 32 := 1#32
  let v33 : BitVec 32 := Scalar.divsi v31 c1_i32_14
  let v34 : BitVec 32 := Scalar.muli v33 c1_i32_14
  let v35 : BitVec 32 := Scalar.addi c1_i32 v34
  let c1_i32_15 : BitVec 32 := 1#32
  ⟨c1_i32, v35, c1_i32_15⟩

def k1_off3 (v1 : BitVec 32) (v3 : BitVec 32) (k1_t1 : Fin (k1_t1_loop v3).trips) : Fin 2 → Nat :=
  let c1_i32 : BitVec 32 := 1#32
  let c1_i32_15 : BitVec 32 := 1#32
  let arg12 : BitVec 32 := Scf.iv c1_i32 c1_i32_15 k1_t1
  let c128_i32 : BitVec 32 := 128#32
  let v74 : BitVec 32 := Scalar.muli arg12 c128_i32
  let v75 : BitVec 32 := Scalar.addi v1 v74
  let v84 : Index := Scalar.indexCast v75
  let c0_37 : Index := 0#32
  ![v84.toNat, 0]
@[reducible] def k1_t2_loop (v3 : BitVec 32) : Scf.Loop 32 :=
  let c1_i32 : BitVec 32 := 1#32
  let v31 : BitVec 32 := Scalar.subi v3 c1_i32
  let c1_i32_14 : BitVec 32 := 1#32
  let v33 : BitVec 32 := Scalar.divsi v31 c1_i32_14
  let v34 : BitVec 32 := Scalar.muli v33 c1_i32_14
  let v35 : BitVec 32 := Scalar.addi c1_i32 v34
  let v32 : BitVec 32 := Scalar.addi c1_i32 v31
  let c1_i32_16 : BitVec 32 := 1#32
  ⟨v35, v32, c1_i32_16⟩
def k1_off4 (v1 : BitVec 32) (v3 : BitVec 32) (k1_t2 : Fin (k1_t2_loop v3).trips) : Fin 2 → Nat :=
  let c1_i32 : BitVec 32 := 1#32
  let v31 : BitVec 32 := Scalar.subi v3 c1_i32
  let c1_i32_14 : BitVec 32 := 1#32
  let v33 : BitVec 32 := Scalar.divsi v31 c1_i32_14
  let v34 : BitVec 32 := Scalar.muli v33 c1_i32_14
  let v35 : BitVec 32 := Scalar.addi c1_i32 v34
  let c1_i32_16 : BitVec 32 := 1#32
  let arg12 : BitVec 32 := Scf.iv v35 c1_i32_16 k1_t2
  let c128_i32 : BitVec 32 := 128#32
  let v74 : BitVec 32 := Scalar.muli arg12 c128_i32
  let v75 : BitVec 32 := Scalar.addi v1 v74
  let v84 : Index := Scalar.indexCast v75
  let c0_37 : Index := 0#32
  ![v84.toNat, 0]

def k1_chk2 (v1 : BitVec 32) (v3 : BitVec 32) : Prop :=
  ((k1_t1_loop v3).OK) ∧
  (∀ k1_t1 : Fin (k1_t1_loop v3).trips, ∀ a, (k1_off3 v1 v3 k1_t1) a + S128x128.size a ≤ S10240x128.size a) ∧
  ((k1_t2_loop v3).OK) ∧
  (∀ k1_t2 : Fin (k1_t2_loop v3).trips, ∀ a, (k1_off4 v1 v3 k1_t2) a + S128x128.size a ≤ S10240x128.size a)
theorem k1_t1_ok : ∀ (v1 : BitVec 32) (v3 : BitVec 32) (k1_hw2 : k1_chk2 v1 v3), (k1_t1_loop v3).OK := fun v1 v3 k1_hw2 => k1_hw2.1
theorem k1_off3_inb : ∀ (v1 : BitVec 32) (v3 : BitVec 32) (k1_hw2 : k1_chk2 v1 v3) (k1_t1 : Fin (k1_t1_loop v3).trips), ∀ a, (k1_off3 v1 v3 k1_t1) a + S128x128.size a ≤ S10240x128.size a := fun v1 v3 k1_hw2 k1_t1 => k1_hw2.2.1 k1_t1
theorem k1_t2_ok : ∀ (v1 : BitVec 32) (v3 : BitVec 32) (k1_hw2 : k1_chk2 v1 v3), (k1_t2_loop v3).OK := fun v1 v3 k1_hw2 => k1_hw2.2.2.1
theorem k1_off4_inb : ∀ (v1 : BitVec 32) (v3 : BitVec 32) (k1_hw2 : k1_chk2 v1 v3) (k1_t2 : Fin (k1_t2_loop v3).trips), ∀ a, (k1_off4 v1 v3 k1_t2) a + S128x128.size a ≤ S10240x128.size a := fun v1 v3 k1_hw2 k1_t2 => k1_hw2.2.2.2 k1_t2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2560x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2560 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10240x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2560x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1 : Shape := ⟨1, ![1]⟩
abbrev S_ : Shape := ⟨0, ![]⟩
abbrev S10000x128 : Shape := ⟨2, ![10000, 128]⟩
abbrev S320000x1 : Shape := ⟨2, ![320000, 1]⟩
abbrev S1x128 : Shape := ⟨2, ![1, 128]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S1, .f32⟩
  | .hbm, ⟨8, _⟩ => ⟨S_, .f32⟩
  | .hbm, ⟨9, _⟩ => ⟨S10000x128, .f32⟩
  | .hbm, ⟨10, _⟩ => ⟨S320000x1, .i32⟩
  | .hbm, ⟨11, _⟩ => ⟨S10000x128, .f32⟩
  | .hbm, ⟨12, _⟩ => ⟨S128x128, .f32⟩
  | .hbm, ⟨13, _⟩ => ⟨S10000x128, .f32⟩
  | .hbm, ⟨14, _⟩ => ⟨S128x128, .f32⟩
  | .hbm, ⟨15, _⟩ => ⟨S320000x128, .f32⟩
  | .hbm, ⟨16, _⟩ => ⟨S1x128, .f32⟩
  | .hbm, ⟨17, _⟩ => ⟨S320000x128, .f32⟩
  | .hbm, ⟨18, _⟩ => ⟨S320000x128, .f32⟩
  | .hbm, ⟨19, _⟩ => ⟨S_, .i32⟩
  | .hbm, ⟨20, _⟩ => ⟨S320000, .i32⟩
  | .hbm, ⟨21, _⟩ => ⟨S320000, .i1⟩
  | .hbm, ⟨22, _⟩ => ⟨S_, .i32⟩
  | .hbm, ⟨23, _⟩ => ⟨S320000, .i32⟩
  | .hbm, ⟨24, _⟩ => ⟨S320000, .i32⟩
  | .hbm, ⟨25, _⟩ => ⟨S320000, .i32⟩
  | .hbm, ⟨26, _⟩ => ⟨S320000x1, .i32⟩
  | .hbm, ⟨27, _⟩ => ⟨S1, .i32⟩
  | .hbm, ⟨28, _⟩ => ⟨S_, .i32⟩
  | .hbm, ⟨29, _⟩ => ⟨S320000x1, .i32⟩
  | .hbm, ⟨30, _⟩ => ⟨S320000x1, .i1⟩
  | .hbm, ⟨31, _⟩ => ⟨S1x1, .i32⟩
  | .hbm, ⟨32, _⟩ => ⟨S320000x1, .i32⟩
  | .hbm, ⟨33, _⟩ => ⟨S320000x1, .i1⟩
  | .hbm, ⟨34, _⟩ => ⟨S320000x1, .i1⟩
  | .hbm, ⟨35, _⟩ => ⟨S_, .i1⟩
  | .hbm, ⟨36, _⟩ => ⟨S320000, .i1⟩
  | .hbm, ⟨37, _⟩ => ⟨S320000x128, .f32⟩
  | .hbm, ⟨38, _⟩ => ⟨S320000x128, .i1⟩
  | .hbm, ⟨39, _⟩ => ⟨S_, .f32⟩
  | .hbm, ⟨40, _⟩ => ⟨S320000x128, .f32⟩
  | .hbm, ⟨41, _⟩ => ⟨S320000x128, .f32⟩
  | .hbm, ⟨42, _⟩ => ⟨S320000x128, .f32⟩
  | .hbm, ⟨43, _⟩ => ⟨S_, .f32⟩
  | .hbm, ⟨44, _⟩ => ⟨S320000, .f32⟩
  | .hbm, ⟨45, _⟩ => ⟨S320000x1, .f32⟩
  | .hbm, ⟨46, _⟩ => ⟨S_, .f32⟩
  | .hbm, ⟨47, _⟩ => ⟨S320000x1, .f32⟩
  | .hbm, ⟨48, _⟩ => ⟨S320000x1, .f32⟩
  | .hbm, ⟨49, _⟩ => ⟨S320000x128, .f32⟩
  | .hbm, ⟨50, _⟩ => ⟨S320000x128, .f32⟩
  | .hbm, ⟨51, _⟩ => ⟨S320000x128, .f32⟩
  | .hbm, ⟨52, _⟩ => ⟨S_, .f32⟩
  | .hbm, ⟨53, _⟩ => ⟨S320000, .f32⟩
  | .hbm, ⟨54, _⟩ => ⟨S320000x1, .f32⟩
  | .hbm, ⟨55, _⟩ => ⟨S_, .f32⟩
  | .hbm, ⟨56, _⟩ => ⟨S320000x1, .f32⟩
  | .hbm, ⟨57, _⟩ => ⟨S320000x1, .f32⟩
  | .hbm, ⟨58, _⟩ => ⟨S320000x128, .f32⟩
  | .hbm, ⟨59, _⟩ => ⟨S320000x128, .f32⟩
  | .hbm, ⟨60, _⟩ => ⟨S_, .f32⟩
  | .hbm, ⟨61, _⟩ => ⟨S320000x1, .f32⟩
  | .hbm, ⟨62, _⟩ => ⟨S320000x1, .f32⟩
  | .hbm, ⟨63, _⟩ => ⟨S320000x1, .f32⟩
  | .hbm, ⟨64, _⟩ => ⟨S320000x128, .f32⟩
  | .hbm, ⟨65, _⟩ => ⟨S320000x128, .f32⟩
  | .hbm, ⟨66, _⟩ => ⟨S1x128, .f32⟩
  | .hbm, ⟨67, _⟩ => ⟨S320000x128, .f32⟩
  | .hbm, ⟨68, _⟩ => ⟨S320000x128, .f32⟩
  | .hbm, ⟨69, _⟩ => ⟨S1x128, .f32⟩
  | .hbm, ⟨70, _⟩ => ⟨S320000x128, .f32⟩
  | .hbm, ⟨71, _⟩ => ⟨S320000x128, .f32⟩
  | .hbm, ⟨72, _⟩ => ⟨S_, .f32⟩
  | .hbm, ⟨73, _⟩ => ⟨S320000x128, .f32⟩
  | .hbm, ⟨74, _⟩ => ⟨S320000x128, .i1⟩
  | .hbm, ⟨75, _⟩ => ⟨S1x1, .f32⟩
  | .hbm, ⟨76, _⟩ => ⟨S320000x128, .f32⟩
  | .hbm, ⟨77, _⟩ => ⟨S320000x128, .f32⟩
  | .hbm, ⟨78, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_2 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩

abbrev nD : Nat := 1
abbrev τ : Topo := Topo.v7x

variable {F : FTy → Type} [FloatOps F]
-- ==== Proof.Own.lean ====
/-
  Loads and stores over `owns`: what a kernel body does to a memref it owns at known contents `X`, said of the
  contents alone. A load through a unit rectangle reads `X` at the rectangle's indices and keeps the memref; a store
  through one replaces `X` there. Both body proofs step by these two rules.
-/
module

public import Idealize.ShloMosaic.Lib.Memref
public import Idealize.ShloMosaic.Lib.Pipeline.FrameBody
public import Idealize.ShloMosaic.Lib.VecWindow
public import Idealize.ShloMosaic.Lib.Tactic

@[expose] public section

noncomputable section

namespace Cert.Own

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {cs : CoreSpace} {s : Shape} {e : EltTy} {α : Type}

/-- A load through a rectangle of a memref owned at `X` reads `X` there and keeps the memref. -/
theorem load (m : Memref sig c.2.kind cs s e) (r : Rect s) (hl : m.view.LoadsAt r)
    (k : (r.shape.Idx → Val e) → Prog (TpuEff nD τ sig Val Λ c.2) α) (Q : α → sProp 𝕄) (q : PosShare TreeShare) (X : s.Idx → Val e) :
    (owns c m q X : sProp 𝕄)
      ⊢ iprop((owns c m q X -∗ wp frame (wpE defs 𝒱 c bd) E (k (View.ld X r)) Q)
        -∗ wp frame (wpE defs 𝒱 c bd) E (.op (.load m r hl) k) Q) := by
  unfold owns
  iintro ⟨%f, %hf, hp⟩ hk
  have hS : m.view.setOn (r : LoadRect s).set ⊆ m.view.set := View.setOn_subset_set _ _
  iapply (wp_load 𝒱 c bd E (m := m) (r := r) (hl := hl) (k := k) (Q := Q) (S := m.view.set) (q := q) (f := f) hS) $$ hp
  iintro hp
  have h : m.view.readAt Val r f = View.ld X r := by rw [← hf]; rfl
  rw [h]
  iapply hk
  iexists f
  isplitr
  · ipureintro; exact hf
  iexact hp

/-- A store through a rectangle of a memref owned at `X` leaves it owned at `X` with the stored value there. -/
theorem store (m : Memref sig c.2.kind cs s e) (r : Rect s) (w : r.shape.Idx → Val e)
    (hx : (m.access r).Stores Finset.univ) (hm : (Finset.univ : Finset r.shape.Idx) = Finset.univ ∨ ∀ a, r.stride a = 1)
    (k : PUnit → Prog (TpuEff nD τ sig Val Λ c.2) α) (Q : α → sProp 𝕄) (X : s.Idx → Val e) :
    (owns c m fullShare X : sProp 𝕄)
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, hp⟩ hk
  have hS : (m.access r).setOn Finset.univ ⊆ m.view.set := by
    rw [View.setOn_univ]; exact View.set_slice_subset m.view r
  iapply (wp_store 𝒱 c bd E (m := m) (r := r) (w := w) (hx := hx) (hm := hm) (k := k) (Q := Q) (S := m.view.set) (f := f) hS) $$ hp
  iintro hp
  iapply hk
  iexists ((m.access r).write Val f w Finset.univ)
  isplitr
  · ipureintro
    funext y
    by_cases hy : y ∈ r.set
    · rw [← Rect.map_emb_univ] at hy
      obtain ⟨x, -, rfl⟩ := Finset.mem_map.mp hy
      rw [Rect.overlay_emb]
      exact View.read_slice_write_emb r f w (Finset.mem_univ x)
    · rw [Rect.overlay_of_not_mem r X w hy, ← hf]
      exact View.read_slice_write_of_not_mem r f w _ (by rwa [Rect.map_emb_univ])
  iexact hp

/-- A load of a whole memref owned at `X` reads `X`. -/
theorem loadW (m : Memref sig c.2.kind cs s e) (off : Fin s.rank → Nat) (inb : ∀ a, off a + s.size a ≤ s.size a)
    (hl : m.view.LoadsAt (Rect.unit off s.size inb))
    (k : (s.Idx → Val e) → Prog (TpuEff nD τ sig Val Λ c.2) α) (Q : α → sProp 𝕄) (q : PosShare TreeShare) (X : s.Idx → Val e) :
    (owns c m q X : sProp 𝕄)
      ⊢ iprop((owns c m q X -∗ wp frame (wpE defs 𝒱 c bd) E (k X) Q)
        -∗ wp frame (wpE defs 𝒱 c bd) E (.op (.load m (Rect.unit off s.size inb) hl) k) Q) := by
  have h := load (defs := defs) 𝒱 c bd E m (Rect.unit off s.size inb) hl k Q q X
  have e : View.ld X (Rect.unit off s.size inb) = X := funext fun z => congrArg X (Rect.emb_unit_full inb z)
  rw [e] at h
  exact h

/-- Replacing everything leaves the new values. -/
theorem overlay_full {β : Type} (off : Fin s.rank → Nat) (inb : ∀ a, off a + s.size a ≤ s.size a) (X w : s.Idx → β) :
    (Rect.unit off s.size inb).overlay X w = w := funext fun z => by
  have h := Rect.overlay_emb (Rect.unit off s.size inb) X w z
  rwa [Rect.emb_unit_full] at h

/-- A store to a whole memref leaves it owned at the stored value. -/
theorem storeW (m : Memref sig c.2.kind cs s e) (off : Fin s.rank → Nat) (inb : ∀ a, off a + s.size a ≤ s.size a) (w : s.Idx → Val e)
    (hx : (m.access (Rect.unit off s.size inb)).Stores Finset.univ)
    (hm : (Finset.univ : Finset (Rect.unit off s.size inb).shape.Idx) = Finset.univ ∨ ∀ a, (Rect.unit off s.size inb).stride a = 1)
    (k : PUnit → Prog (TpuEff nD τ sig Val Λ c.2) α) (Q : α → sProp 𝕄) (X : s.Idx → Val e) :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have h := store (defs := defs) 𝒱 c bd E m (Rect.unit off s.size inb) w hx hm k Q X
  rwa [overlay_full] at h

end Cert.Own

end
-- ==== Proof.Words.lean ====
/-
  The sorted segment ids as numbers, the two tables computed from them (the base row of a block's one-hot windows and the
  count of windows), and the bounds the kernels' row windows need. Nothing here names a program.
-/
module

public import Idealize.ShloMosaic.Lib.Affine
public import Idealize.ShloMosaic.Lib.LoopRemainder
public import Idealize.ShloMosaic.Lib.ReduceAll
public import Idealize.ShloMosaic.Lib.WordCmp
public import Idealize.ShloMosaic.Lib.Routing.Words
public import proofs.«01_k».proof.Proof.Gen.Pre_sorted_ids

@[expose] public section

noncomputable section

namespace Cert.Own

open Idealize.ShloMosaic Idealize.ShloMosaic.ValueIdx

/-- The shape of the id array. -/
abbrev SB : Shape := ⟨1, ![320000]⟩
/-- The shape of a table. -/
abbrev ST : Shape := ⟨1, ![125]⟩

/-- Row `k`'s id as a number (0 off the array). -/
def idn (B : SB.Idx → BitVec 32) (k : ℕ) : ℕ := if h : k < 320000 then (B (ix1 ⟨k, h⟩)).toNat else 0

/-- The ids are below 10000 and in order. -/
structure Sorted (B : SB.Idx → BitVec 32) : Prop where
  lt : ∀ k, idn B k < 10000
  mono : ∀ k l, k ≤ l → l < 320000 → idn B k ≤ idn B l

/-- Block `t`'s base row: its first id, down to a multiple of 8. -/
def base (B : SB.Idx → BitVec 32) (t : ℕ) : ℕ := idn B (2560 * t) / 8 * 8
/-- The count of 128-row windows from the base that reach block `t`'s last id. -/
def nch (B : SB.Idx → BitVec 32) (t : ℕ) : ℕ := (idn B (2560 * t + 2559) - base B t) / 128 + 1

variable {B : SB.Idx → BitVec 32} (hB : Sorted B)
include hB

theorem Sorted.base_le {t r : ℕ} (ht : t < 125) (hr : r < 2560) : base B t ≤ idn B (2560 * t + r) := by
  have := hB.mono (2560 * t) (2560 * t + r) (by omega) (by omega)
  unfold base; omega

theorem Sorted.lt_top {t r : ℕ} (ht : t < 125) (hr : r < 2560) : idn B (2560 * t + r) < base B t + 128 * nch B t := by
  have h1 := hB.mono (2560 * t + r) (2560 * t + 2559) (by omega) (by omega)
  unfold nch
  omega

theorem Sorted.window {t : ℕ} (ht : t < 125) {j : ℕ} (hj : j < nch B t) : base B t + 128 * j + 128 ≤ 10240 := by
  have h1 := hB.base_le ht (r := 2559) (by omega)
  have h2 := hB.lt (2560 * t + 2559)
  unfold nch at hj
  omega

theorem Sorted.nch_le {t : ℕ} (ht : t < 125) : nch B t ≤ 80 := by
  have h := hB.window ht (j := nch B t - 1) (by unfold nch; omega)
  have h0 : 0 < nch B t := by unfold nch; omega
  omega

theorem Sorted.base_lt {t : ℕ} : base B t < 10000 := by
  have := hB.lt (2560 * t)
  unfold base; omega

theorem Sorted.at (k : Fin 320000) : B (ix1 k) = BitVec.ofNat 32 (idn B k.val) := by
  unfold idn; rw [dif_pos k.isLt]
  simp

omit hB in
/-- The ids of a memory that meets the precondition are sorted. -/
theorem sorted_of_pre {F : FTy → Type} [FloatOps F] (x0 : FVec F Pre_sorted_ids.S320000x128 .f32) (B : IVec Pre_sorted_ids.S320000 32)
    (x2 : FVec F Pre_sorted_ids.S128x128 .f32) (x3 : FVec F Pre_sorted_ids.S128 .f32) (x4 : FVec F Pre_sorted_ids.S128x128 .f32)
    (x5 x6 : FVec F Pre_sorted_ids.S128 .f32) (x7 : FVec F Pre_sorted_ids.S1 .f32)
    (h : Pre_sorted_ids.fn x0 B x2 x3 x4 x5 x6 x7 = fun _ => 1#1) : Sorted B := by
  have e := congrFun h (fun a => a.elim0)
  unfold Pre_sorted_ids.fn at e
  haveI : Subsingleton Pre_sorted_ids.S_.Idx := ⟨fun a b => funext fun i => i.elim0⟩
  obtain ⟨e1, e3⟩ := IntOp.andi_eq_one.1 e
  obtain ⟨e1, e2⟩ := IntOp.andi_eq_one.1 e1
  have ge0 : ∀ i, (0 : ℤ) ≤ (B i).toInt := fun i => IntOp.cmpi_sge.1 (Host.reduce_andi_all _ _ _ _ _ e1 i)
  have lt0 : ∀ i, (B i).toInt < 10000 := fun i => IntOp.cmpi_slt.1 (Host.reduce_andi_all _ _ _ _ _ e2 i)
  have nat : ∀ i, ((B i).toNat : ℤ) = (B i).toInt := fun i =>
    (WordCmp.toInt_eq_toNat_of_lt_half ((WordCmp.toInt_nonneg_iff_lt_half _).1 (ge0 i))).symm
  have lt : ∀ k, idn B k < 10000 := fun k => by
    unfold idn; split
    · have := nat (ix1 ⟨k, by assumption⟩); have := lt0 (ix1 ⟨k, by assumption⟩); omega
    · omega
  have step : ∀ k, k + 1 < 320000 → idn B k ≤ idn B (k + 1) := fun k hk => by
    have h3 := IntOp.cmpi_sle.1 (Host.reduce_andi_all _ _ _ _ _ e3 (ix1 ⟨k, by omega⟩))
    have h4 : (B (ix1 ⟨k, by omega⟩)).toInt ≤ (B (ix1 ⟨k + 1, hk⟩)).toInt := by
      refine le_of_eq_of_le ?_ (le_of_le_of_eq h3 ?_)
      · exact congrArg (fun i => (B i).toInt) (funext fun a => Fin.ext (by match a with | ⟨0, _⟩ => exact (Nat.zero_add k).symm))
      · exact congrArg (fun i => (B i).toInt) (funext fun a => Fin.ext (by match a with | ⟨0, _⟩ => exact (Nat.add_comm 1 k)))
    unfold idn
    rw [dif_pos (show k < 320000 by omega), dif_pos hk]
    have := nat (ix1 ⟨k, by omega⟩); have := nat (ix1 ⟨k + 1, hk⟩); omega
  refine ⟨lt, fun k l hkl hl => ?_⟩
  induction l, hkl using Nat.le_induction with
  | base => exact le_rfl
  | succ n hn ih => exact (ih (by omega)).trans (step n hl)

/-! ## The tables as computed -/

/-- The host's base rows: the block's first id, floor-divided by 8 and multiplied by 8. -/
theorem bases_at (hb : (⟨0, ![]⟩ : Shape).BroadcastsInDim ST (![] : Fin 0 → Fin 1)) (S : IVec ST 32) (t : Fin 125)
    (hS : S (ix1 t) = BitVec.ofNat 32 (idn B (2560 * t.val))) :
    muli (Routing.pyDiv hb S (constantI ⟨0, ![]⟩ 32 8#32)) (broadcastInDim ST ![] hb (constantI ⟨0, ![]⟩ 32 8#32)) (ix1 t)
      = BitVec.ofNat 32 (base B t.val) := by
  have h := hB.lt (2560 * t.val)
  show Routing.pyDiv hb S _ (ix1 t) * 8#32 = _
  rw [Routing.pyDiv_ap hb S _ (ix1 t) hS (b := 8) rfl (by omega) (by decide) (by decide)]
  unfold base
  apply BitVec.eq_of_toNat_eq
  simp only [BitVec.toNat_mul, BitVec.toNat_ofNat]
  omega

/-- The host's window counts: from the base row to the block's last id, floor-divided by 128, plus 1. -/
theorem nchs_at (hb : (⟨0, ![]⟩ : Shape).BroadcastsInDim ST (![] : Fin 0 → Fin 1)) (E Bs : IVec ST 32) (t : Fin 125)
    (hE : E (ix1 t) = BitVec.ofNat 32 (idn B (2560 * t.val + 2559))) (hBs : Bs (ix1 t) = BitVec.ofNat 32 (base B t.val)) :
    addi (Routing.pyDiv hb (subi E Bs) (constantI ⟨0, ![]⟩ 32 128#32)) (broadcastInDim ST ![] hb (constantI ⟨0, ![]⟩ 32 1#32)) (ix1 t)
      = BitVec.ofNat 32 (nch B t.val) := by
  have h := hB.lt (2560 * t.val + 2559)
  have h1 := hB.base_le t.isLt (r := 2559) (by omega)
  have hs : subi E Bs (ix1 t) = BitVec.ofNat 32 (idn B (2560 * t.val + 2559) - base B t.val) := by
    show E (ix1 t) - Bs (ix1 t) = _
    rw [hE, hBs]
    apply BitVec.eq_of_toNat_eq
    simp only [BitVec.toNat_sub, BitVec.toNat_ofNat]
    omega
  show Routing.pyDiv hb _ _ (ix1 t) + 1#32 = _
  rw [Routing.pyDiv_ap hb _ _ (ix1 t) hs (b := 128) rfl (by omega) (by decide) (by decide)]
  unfold nch
  apply BitVec.eq_of_toNat_eq
  simp only [BitVec.toNat_add, BitVec.toNat_ofNat]
  omega

/-! ## The loops over the windows -/

omit hB in
theorem toInt_small {n : ℕ} (h : n < 2 ^ 31) : (BitVec.ofNat 32 n).toInt = (n : ℤ) := by
  rw [BitVec.toInt_eq_toNat_of_lt (by rw [BitVec.toNat_ofNat]; omega), BitVec.toNat_ofNat]; omega

omit hB in
/-- A loop from 0 to a count by ones, the upper bound spelt as the kernels spell it. -/
theorem loop0 {n : ℕ} (h : n < 2 ^ 30) :
    Scf.OK 0#32 (Scalar.addi 0#32 (Scalar.muli (Scalar.divsi (Scalar.subi (BitVec.ofNat 32 n) 0#32) 1#32) 1#32)) 1#32
      ∧ Scf.trips 0#32 (Scalar.addi 0#32 (Scalar.muli (Scalar.divsi (Scalar.subi (BitVec.ofNat 32 n) 0#32) 1#32) 1#32)) 1#32 = n := by
  have e : Scalar.addi 0#32 (Scalar.muli (Scalar.divsi (Scalar.subi (BitVec.ofNat 32 n) 0#32) 1#32) 1#32) = BitVec.ofNat 32 n := by
    rw [Scalar.muli_divsi_one]
    simp [Scalar.addi, IntOp.addi, Scalar.subi, IntOp.subi]
  rw [e]
  have ht : Scf.trips 0#32 (BitVec.ofNat 32 n) 1#32 = n := by
    unfold Scf.trips
    rw [toInt_small (by omega), show (0#32 : BitVec 32).toInt = 0 from rfl, show (1#32 : BitVec 32).toInt = 1 from rfl]
    omega
  refine ⟨⟨by decide, ?_⟩, ht⟩
  rw [ht, show (0#32 : BitVec 32).toInt = 0 from rfl, show (1#32 : BitVec 32).toInt = 1 from rfl]
  omega

omit hB in
/-- The same from 1. -/
theorem loop1 {n : ℕ} (h : n < 2 ^ 30) (hn : 0 < n) :
    Scf.OK 1#32 (Scalar.addi 1#32 (Scalar.muli (Scalar.divsi (Scalar.subi (BitVec.ofNat 32 n) 1#32) 1#32) 1#32)) 1#32
      ∧ Scf.trips 1#32 (Scalar.addi 1#32 (Scalar.muli (Scalar.divsi (Scalar.subi (BitVec.ofNat 32 n) 1#32) 1#32) 1#32)) 1#32 = n - 1 := by
  have e : Scalar.addi 1#32 (Scalar.muli (Scalar.divsi (Scalar.subi (BitVec.ofNat 32 n) 1#32) 1#32) 1#32) = BitVec.ofNat 32 n := by
    rw [Scalar.muli_divsi_one]
    show 1#32 + (BitVec.ofNat 32 n - 1#32) = _
    rw [BitVec.add_comm, BitVec.sub_add_cancel]
  rw [e]
  have ht : Scf.trips 1#32 (BitVec.ofNat 32 n) 1#32 = n - 1 := by
    unfold Scf.trips
    rw [toInt_small (by omega), show (1#32 : BitVec 32).toInt = 1 from rfl]
    omega
  refine ⟨⟨by decide, ?_⟩, ht⟩
  rw [ht, show (1#32 : BitVec 32).toInt = 1 from rfl]
  omega

omit hB in
/-- A window's first row as the kernels compute it. -/
theorem row_word {b j : ℕ} (h : b + 128 * j < 2 ^ 32) (l : BitVec 32) (k : ℕ) (hl : l + BitVec.ofNat 32 k * 1#32 = BitVec.ofNat 32 j) :
    (Scalar.addi (BitVec.ofNat 32 b) (Scalar.muli (Scf.iv l 1#32 k) 128#32)) = BitVec.ofNat 32 (b + 128 * j) := by
  unfold Scf.iv
  rw [hl]
  show BitVec.ofNat 32 b + BitVec.ofNat 32 j * 128#32 = _
  apply BitVec.eq_of_toNat_eq
  simp only [BitVec.toNat_add, BitVec.toNat_mul, BitVec.toNat_ofNat]
  omega

end Cert.Own

end
-- ==== Proof.KernelIdeal.Body.lean ====
/-
  What the two kernel bodies do to the memrefs they are handed, at any float operations. Each state a body passes
  through is a function of the contents it found: the scatter loop of the first kernel (`scat`), its last point's four
  products (`proj`), the subtraction loop of the second (`sub1`). `body0` and `body1` are the two triples, at words
  that meet the range checks the bodies assume.
-/
module

public import proofs.«01_k».proof.Proof.Own
public import proofs.«01_k».proof.Proof.Gen.KernelIdeal
public import proofs.«01_k».proof.Proof.Gen.KernelIdeal.Skeleton
public import Idealize.ShloMosaic.Lib.Pipeline.TableIdle
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The states -/

/-- The first kernel's condition for its first point. -/
def cond1 (i : grid0.Coords) : BitVec 1 :=
  let v1 : BitVec 32 := Scalar.extui (Scalar.cmpi .eq (BitVec.ofNat 32 (i 0).val) 0#32)
  Scalar.cmpi .ne v1 0#32

/-- The accumulator a point of the first kernel starts from: zeros at the first point, what it found after. -/
def start (i : grid0.Coords) (A : Vec F S10240x128 .f32) : Vec F S10240x128 .f32 :=
  if cond1 i = 1#1 then k0_pay1 else A

/-- The rows trip `k` of the scatter loop rewrites. -/
abbrev rect2 (v4 v6 : BitVec 32) (hw : k0_chk1 v4 v6) (k : Fin (k0_t1_loop v6).trips) : Rect S10240x128 :=
  Rect.unit (s := S10240x128) (k0_off2 v4 v6 k) S128x128.size (k0_off2_inb v4 v6 hw k)

/-- One trip of the scatter loop. -/
def scat1 (v4 v6 : BitVec 32) (hw : k0_chk1 v4 v6) (b : Vec F S1x1x2560 .i32) (x : Vec F S2560x128 .f32)
    (k : Fin (k0_t1_loop v6).trips) (A : Vec F S10240x128 .f32) : Vec F S10240x128 .f32 :=
  (rect2 v4 v6 hw k).overlay A (k0_pay4 v4 v6 b x k (View.ld (Val := Elt F) (e' := .f32) A (rect2 v4 v6 hw k)))

/-- The accumulator after the first `n` trips. -/
def scat (v4 v6 : BitVec 32) (hw : k0_chk1 v4 v6) (b : Vec F S1x1x2560 .i32) (x : Vec F S2560x128 .f32)
    (A : Vec F S10240x128 .f32) : Nat → Vec F S10240x128 .f32
  | 0 => A
  | n + 1 => if h : n < (k0_t1_loop v6).trips then scat1 v4 v6 hw b x ⟨n, h⟩ (scat v4 v6 hw b x A n) else scat v4 v6 hw b x A n

/-- The rows trip `k` of the projection loop writes. -/
abbrev rect4 (i : grid0.Coords) (h : k0_cond2 i = 1#1) (k : Fin k0_t3_loop.trips) : Rect S10240x128 :=
  Rect.unit (s := S10240x128) (k0_off4 k) S2560x128.size (k0_off4_inb i k h)

/-- One trip of the projection loop. -/
def proj1 (i : grid0.Coords) (h : k0_cond2 i = 1#1) (A : Vec F S10240x128 .f32) (w : Vec F S128x128 .f32)
    (k : Fin k0_t3_loop.trips) (O : Vec F S10240x128 .f32) : Vec F S10240x128 .f32 :=
  (rect4 i h k).overlay O (k0_pay6 (View.ld (Val := Elt F) (e' := .f32) A (rect4 i h k)) w)

/-- The projected sums after the first `n` trips. -/
def proj (i : grid0.Coords) (h : k0_cond2 i = 1#1) (A : Vec F S10240x128 .f32) (w : Vec F S128x128 .f32)
    (O : Vec F S10240x128 .f32) : Nat → Vec F S10240x128 .f32
  | 0 => O
  | n + 1 => if hn : n < k0_t3_loop.trips then proj1 i h A w ⟨n, hn⟩ (proj i h A w O n) else proj i h A w O n

/-- The result window of the first kernel after a point: the four products at the last point, untouched before. -/
def projEnd (i : grid0.Coords) (A : Vec F S10240x128 .f32) (w : Vec F S128x128 .f32) (O : Vec F S10240x128 .f32) :
    Vec F S10240x128 .f32 :=
  if h : k0_cond2 i = 1#1 then proj i h A w O k0_t3_loop.trips else O

/-- The accumulator after a whole point. -/
def scatEnd (i : grid0.Coords) (v4 v6 : BitVec 32) (hw : k0_chk1 v4 v6) (b : Vec F S1x1x2560 .i32) (x : Vec F S2560x128 .f32)
    (A : Vec F S10240x128 .f32) : Vec F S10240x128 .f32 :=
  scat v4 v6 hw b x (start i A) (k0_t1_loop v6).trips

/-- The second kernel's block before the subtraction loop and after its first `n` trips. -/
def sub1 (v1 v3 : BitVec 32) (hw : k1_chk2 v1 v3) (b : Vec F S1x1x2560 .i32) (xm : Vec F S10240x128 .f32)
    (D : Vec F S2560x128 .f32) : Nat → Vec F S2560x128 .f32
  | 0 => D
  | n + 1 => if h : n < (k1_t1_loop v3).trips then
      k1_pay1 v1 v3 (k1_pay4 b) (iota .tc S128x2560 32 [0] iota_S128x2560_d0_w32) 1#32 1#32 ⟨n, h⟩ (sub1 v1 v3 hw b xm D n)
        (View.ld (Val := Elt F) (e' := .f32) xm (Rect.unit (s := S10240x128) (k1_off3 v1 v3 ⟨n, h⟩) S128x128.size (k1_off3_inb v1 v3 hw ⟨n, h⟩)))
    else sub1 v1 v3 hw b xm D n

/-- What a point of the second kernel leaves in its result block. -/
def out1 (v1 v3 : BitVec 32) (h1 : k1_chk1 v1) (hw : k1_chk2 v1 v3) (xb : Vec F S2560x128 .bf16) (b : Vec F S1x1x2560 .i32)
    (xm : Vec F S10240x128 .f32) (wg : Vec F S128x128 .bf16) (bg lw lb : Vec F S1x128 .f32) (al : Vec F S1x1 .f32) :
    Vec F S2560x128 .f32 :=
  k1_pay3 (sub1 v1 v3 hw b xm (k1_pay5 v1 b xb wg bg
    (View.ld (Val := Elt F) (e' := .f32) xm (Rect.unit (s := S10240x128) (k1_off2 v1) S128x128.size (k1_off2_inb v1 h1)))) (k1_t1_loop v3).trips) lw lb al

/-- The word of a table that grid point `i` reads. -/
def word0 (i : grid0.Coords) (T : Vec F S125 .i32) : BitVec 32 :=
  View.ld (Val := Elt F) (e' := .i32) T (Rect.unit (s := S125) (k0_off1 i) S1.size (k0_off1_inb i)) (Shape.Idx.first (s := S1) (numel1_S1.symm ▸ Nat.one_pos))
/-- The same for the second kernel. -/
def word1 (i : grid1.Coords) (T : Vec F S125 .i32) : BitVec 32 :=
  View.ld (Val := Elt F) (e' := .i32) T (Rect.unit (s := S125) (k1_off1 i) S1.size (k1_off1_inb i)) (Shape.Idx.first (s := S1) (numel1_S1.symm ▸ Nat.one_pos))

/-! ## The triples -/

section Triples

variable {U : Type} [URA U]

local notation "𝕄" => MT nD τ sig Unit (Elt F) ℕ U ℕ

variable (𝒱 : Variants) (c : Dev nD) (bd : Option 𝒱.V) (E : Set ℕ)

/-- One trip of the scatter loop at a known accumulator. -/
theorem t1_trip (defs : Defs nD τ sig (Elt F) Λ₀) (i : grid0.Coords) (arg1 : Memref sig .tc .smem S125 .i32) (harg1 : arg1.IsWhole) (arg2 : Memref sig .tc .smem S125 .i32) (harg2 : arg2.IsWhole) (arg3 : Memref sig .tc .vmem S2560x128 .f32) (harg3 : arg3.IsWhole) (arg4 : Memref sig .tc .vmem S1x1x2560 .i32) (harg4 : arg4.IsWhole) (arg5 : Memref sig .tc .vmem S128x128 .f32) (harg5 : arg5.IsWhole) (arg6 : Memref sig .tc .vmem S10240x128 .f32) (harg6 : arg6.IsWhole) (arg7 : Memref sig .tc .vmem S2560x128 .bf16) (harg7 : arg7.IsWhole) (arg8 : Memref sig .tc .vmem S10240x128 .f32) (harg8 : arg8.IsWhole)
    (v4 v6 : BitVec 32) (hw : k0_chk1 v4 v6) (b : Vec F S1x1x2560 .i32) (x : Vec F S2560x128 .f32) (A : Vec F S10240x128 .f32)
    (k : Fin (k0_t1_loop v6).trips) (acc : BitVec 32) :
    (owns (c : Thread nD τ) arg8 fullShare (scat v4 v6 hw b x A k.val) : sProp 𝕄)
      ⊢ wp frame (wpE defs 𝒱 (c : Thread nD τ) bd) E (k0_t1_body i arg1 harg1 arg2 harg2 arg3 harg3 arg4 harg4 arg5 harg5 arg6 harg6 arg7 harg7 arg8 harg8 v4 v6 hw b x k acc)
          (fun _ => owns (c : Thread nD τ) arg8 fullShare (scat v4 v6 hw b x A (k.val + 1))) := by
  have hk : scat v4 v6 hw b x A (k.val + 1) = scat1 v4 v6 hw b x k (scat v4 v6 hw b x A k.val) := by
    rw [scat, dif_pos k.isLt]
  rw [hk]
  generalize scat v4 v6 hw b x A k.val = A'
  unfold k0_t1_body
  simp only [Prog.lift, Prog.bind_op, Prog.bind_ret, Prog.pure_eq_ret]
  iintro H
  iapply (Own.load (defs := defs) 𝒱 (c : Thread nD τ) bd E arg8 (rect2 v4 v6 hw k) _ _ _ fullShare A') $$ H
  iintro H
  iapply (Own.load (defs := defs) 𝒱 (c : Thread nD τ) bd E arg8 (rect2 v4 v6 hw k) _ _ _ fullShare A') $$ H
  iintro H
  iapply (Own.store (defs := defs) 𝒱 (c : Thread nD τ) bd E arg8 (rect2 v4 v6 hw k) _ _ _ _ _ A') $$ H
  iintro H
  iapply (le_wp_ret _ _ _ _ _)
  iexact H

/-- One trip of the projection loop: it reads the accumulator and the weight, and rewrites rows of the result. -/
theorem t3_trip (defs : Defs nD τ sig (Elt F) Λ₀) (i : grid0.Coords) (arg1 : Memref sig .tc .smem S125 .i32) (harg1 : arg1.IsWhole) (arg2 : Memref sig .tc .smem S125 .i32) (harg2 : arg2.IsWhole) (arg3 : Memref sig .tc .vmem S2560x128 .f32) (harg3 : arg3.IsWhole) (arg4 : Memref sig .tc .vmem S1x1x2560 .i32) (harg4 : arg4.IsWhole) (arg5 : Memref sig .tc .vmem S128x128 .f32) (harg5 : arg5.IsWhole) (arg6 : Memref sig .tc .vmem S10240x128 .f32) (harg6 : arg6.IsWhole) (arg7 : Memref sig .tc .vmem S2560x128 .bf16) (harg7 : arg7.IsWhole) (arg8 : Memref sig .tc .vmem S10240x128 .f32) (harg8 : arg8.IsWhole)
    (h : k0_cond2 i = 1#1) (A : Vec F S10240x128 .f32) (w : Vec F S128x128 .f32) (O : Vec F S10240x128 .f32)
    (k : Fin k0_t3_loop.trips) (acc : Unit) :
    (iprop(owns (c : Thread nD τ) arg8 fullShare A ∗ owns (c : Thread nD τ) arg5 fullShare w
        ∗ owns (c : Thread nD τ) arg6 fullShare (proj i h A w O k.val)) : sProp 𝕄)
      ⊢ wp frame (wpE defs 𝒱 (c : Thread nD τ) bd) E (k0_t3_body i arg1 harg1 arg2 harg2 arg3 harg3 arg4 harg4 arg5 harg5 arg6 harg6 arg7 harg7 arg8 harg8 h k acc)
          (fun _ => iprop(owns (c : Thread nD τ) arg8 fullShare A ∗ owns (c : Thread nD τ) arg5 fullShare w
            ∗ owns (c : Thread nD τ) arg6 fullShare (proj i h A w O (k.val + 1)))) := by
  have hk : proj i h A w O (k.val + 1) = proj1 i h A w k (proj i h A w O k.val) := by
    rw [proj, dif_pos k.isLt]
  rw [hk]
  generalize proj i h A w O k.val = O'
  unfold k0_t3_body
  simp only [Prog.lift, Prog.bind_op, Prog.bind_ret, Prog.pure_eq_ret]
  iintro ⟨H8, H5, H6⟩
  iapply (Own.load (defs := defs) 𝒱 (c : Thread nD τ) bd E arg8 (rect4 i h k) _ _ _ fullShare A) $$ H8
  iintro H8
  iapply (Own.loadW (defs := defs) 𝒱 (c : Thread nD τ) bd E arg5 _ _ _ _ _ fullShare w) $$ H5
  iintro H5
  iapply (Own.load (defs := defs) 𝒱 (c : Thread nD τ) bd E arg6 (rect4 i h k) _ _ _ fullShare O') $$ H6
  iintro H6
  iapply (Own.store (defs := defs) 𝒱 (c : Thread nD τ) bd E arg6 (rect4 i h k) _ _ _ _ _ O') $$ H6
  iintro H6
  iapply (le_wp_ret _ _ _ _ _)
  isplitl [H8]
  · iexact H8
  isplitl [H5]
  · iexact H5
  iexact H6

set_option backward.isDefEq.respectTransparency.types false in
/-- The first kernel's body at one point: the tables and inputs stay, the converted block is written, the accumulator takes the
    block's sums, and at the last point the result window takes the projected sums. -/
theorem body0 (defs : Defs nD τ sig (Elt F) Λ₀) (i : grid0.Coords) (arg1 : Memref sig .tc .smem S125 .i32) (harg1 : arg1.IsWhole) (arg2 : Memref sig .tc .smem S125 .i32) (harg2 : arg2.IsWhole) (arg3 : Memref sig .tc .vmem S2560x128 .f32) (harg3 : arg3.IsWhole) (arg4 : Memref sig .tc .vmem S1x1x2560 .i32) (harg4 : arg4.IsWhole) (arg5 : Memref sig .tc .vmem S128x128 .f32) (harg5 : arg5.IsWhole) (arg6 : Memref sig .tc .vmem S10240x128 .f32) (harg6 : arg6.IsWhole) (arg7 : Memref sig .tc .vmem S2560x128 .bf16) (harg7 : arg7.IsWhole) (arg8 : Memref sig .tc .vmem S10240x128 .f32) (harg8 : arg8.IsWhole)
    (B N : Vec F S125 .i32) (hw : k0_chk1 (word0 i B) (word0 i N)) (ht2 : (k0_t2_loop (word0 i N)).trips = 0)
    (x : Vec F S2560x128 .f32) (b : Vec F S1x1x2560 .i32) (w : Vec F S128x128 .f32)
    (O : Vec F S10240x128 .f32) (D : Vec F S2560x128 .bf16) (A : Vec F S10240x128 .f32) :
    (iprop(owns (c : Thread nD τ) arg1 fullShare B ∗ owns (c : Thread nD τ) arg2 fullShare N
        ∗ owns (c : Thread nD τ) arg3 fullShare x ∗ owns (c : Thread nD τ) arg4 fullShare b
        ∗ owns (c : Thread nD τ) arg5 fullShare w ∗ owns (c : Thread nD τ) arg6 fullShare O
        ∗ owns (c : Thread nD τ) arg7 fullShare D ∗ owns (c : Thread nD τ) arg8 fullShare A) : sProp 𝕄)
      ⊢ wp frame (wpE defs 𝒱 (c : Thread nD τ) bd) E (cc0__k1_body i arg1 harg1 arg2 harg2 arg3 harg3 arg4 harg4 arg5 harg5 arg6 harg6 arg7 harg7 arg8 harg8)
          (fun _ => iprop(owns (c : Thread nD τ) arg1 fullShare B ∗ owns (c : Thread nD τ) arg2 fullShare N
            ∗ owns (c : Thread nD τ) arg3 fullShare x ∗ owns (c : Thread nD τ) arg4 fullShare b
            ∗ owns (c : Thread nD τ) arg5 fullShare w
            ∗ owns (c : Thread nD τ) arg6 fullShare (projEnd i (scatEnd i (word0 i B) (word0 i N) hw b x A) w O)
            ∗ owns (c : Thread nD τ) arg7 fullShare (k0_pay3 x)
            ∗ owns (c : Thread nD τ) arg8 fullShare (scatEnd i (word0 i B) (word0 i N) hw b x A))) := by
  rw [cc0__k1_body_eq_skeleton]
  unfold cc0__k1_body_skel
  have hend : scatEnd i (word0 i B) (word0 i N) hw b x A
      = scat (word0 i B) (word0 i N) hw b x (start i A) (k0_t1_loop (word0 i N)).trips := rfl
  rw [hend]
  simp only [smemLoad, smemLoadElt, Prog.lift, Prog.bind_op, Prog.bind_ret, Prog.pure_eq_ret, Prog.bind_assoc]
  iintro ⟨H1, H2, H3, H4, H5, H6, H7, H8⟩
  by_cases h1 : cond1 i = 1#1 <;> have h1c := h1 <;> simp only [cond1] at h1c
  on_goal 1 =>
    rw [dif_pos h1c, show start i A = k0_pay1 from if_pos h1]
    iapply (Own.loadW (defs := defs) 𝒱 (c : Thread nD τ) bd E arg8 _ _ _ _ _ fullShare A) $$ H8
    iintro H8
    iapply (Own.storeW (defs := defs) 𝒱 (c : Thread nD τ) bd E arg8 _ _ _ _ _ _ _ A) $$ H8
    iintro H8
    generalize (k0_pay1 : Vec F S10240x128 .f32) = A0
  on_goal 2 =>
    rw [dif_neg h1c, show start i A = A from if_neg h1]
    generalize A = A0
  all_goals
    iapply (Own.load (defs := defs) 𝒱 (c : Thread nD τ) bd E arg1 (Rect.unit (s := S125) (k0_off1 i) S1.size (k0_off1_inb i)) _ _ _ fullShare B) $$ H1
    iintro H1
    iapply (Own.load (defs := defs) 𝒱 (c : Thread nD τ) bd E arg2 (Rect.unit (s := S125) (k0_off1 i) S1.size (k0_off1_inb i)) _ _ _ fullShare N) $$ H2
    iintro H2
    iapply (wp_assume (d := k0_chk1.dec (word0 i B) (word0 i N)) 𝒱 (c : Thread nD τ) bd E hw)
    iapply (Own.loadW (defs := defs) 𝒱 (c : Thread nD τ) bd E arg4 _ _ _ _ _ fullShare b) $$ H4
    iintro H4
    iapply (Own.loadW (defs := defs) 𝒱 (c : Thread nD τ) bd E arg3 _ _ _ _ _ fullShare x) $$ H3
    iintro H3
    iapply (Own.loadW (defs := defs) 𝒱 (c : Thread nD τ) bd E arg7 _ _ _ _ _ fullShare D) $$ H7
    iintro H7
    iapply (Own.storeW (defs := defs) 𝒱 (c : Thread nD τ) bd E arg7 _ _ _ _ _ _ _ D) $$ H7
    iintro H7
    iapply (show (owns (c : Thread nD τ) arg8 fullShare A0 : sProp 𝕄) ⊢ _ from Scf.wp_for_bind frame (wpE defs 𝒱 (c : Thread nD τ) bd) E _ _ _ _ _ _
      (fun n _ => owns (c : Thread nD τ) arg8 fullShare (scat (word0 i B) (word0 i N) hw b x A0 n))
      (fun k acc => t1_trip 𝒱 c bd E defs i arg1 harg1 arg2 harg2 arg3 harg3 arg4 harg4 arg5 harg5 arg6 harg6 arg7 harg7 arg8 harg8 (word0 i B) (word0 i N) hw b x A0 k acc)) $$ H8
    iintro %acc H8
    iapply (show (iprop(emp) : sProp 𝕄) ⊢ _ from Scf.wp_for_bind frame (wpE defs 𝒱 (c : Thread nD τ) bd) E (k0_t2_loop (word0 i N)).lb (k0_t2_loop (word0 i N)).ub (k0_t2_loop (word0 i N)).st _ _ _
      (fun _ _ => iprop(emp)) (fun k _ => absurd k.isLt (Nat.not_lt.mpr ((Nat.le_of_eq ht2).trans (Nat.zero_le _))))) $$ []
    · iempintro
    iintro %acc1 -
    by_cases h2 : k0_cond2 i = 1#1
    · rw [dif_pos h2, show ∀ A', projEnd i A' w O = proj i h2 A' w O k0_t3_loop.trips from fun A' => dif_pos h2]
      generalize scat (word0 i B) (word0 i N) hw b x A0 (k0_t1_loop (word0 i N)).trips = A1
      iapply (show (iprop(owns (c : Thread nD τ) arg8 fullShare A1 ∗ owns (c : Thread nD τ) arg5 fullShare w ∗ owns (c : Thread nD τ) arg6 fullShare O) : sProp 𝕄) ⊢ _
        from Scf.wp_for_bind frame (wpE defs 𝒱 (c : Thread nD τ) bd) E _ _ _ _ _ _
        (fun n _ => iprop(owns (c : Thread nD τ) arg8 fullShare A1 ∗ owns (c : Thread nD τ) arg5 fullShare w
          ∗ owns (c : Thread nD τ) arg6 fullShare (proj i h2 A1 w O n)))
        (fun k acc => t3_trip 𝒱 c bd E defs i arg1 harg1 arg2 harg2 arg3 harg3 arg4 harg4 arg5 harg5 arg6 harg6 arg7 harg7 arg8 harg8 h2 A1 w O k acc)) $$ [H8 H5 H6]
      · isplitl [H8]
        · iexact H8
        isplitl [H5]
        · iexact H5
        iexact H6
      iintro %acc2 ⟨H8, H5, H6⟩
      iapply (le_wp_ret _ _ _ _ _)
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      iexact H8
    · rw [dif_neg h2, show ∀ A', projEnd i A' w O = O from fun A' => dif_neg h2]
      iapply (le_wp_ret _ _ _ _ _)
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      iexact H8

/-- One trip of the subtraction loop. -/
theorem s1_trip (defs : Defs nD τ sig (Elt F) Λ₀) (i : grid1.Coords) (arg1 : Memref sig .tc .smem S125 .i32) (harg1 : arg1.IsWhole) (arg2 : Memref sig .tc .smem S125 .i32) (harg2 : arg2.IsWhole) (arg3 : Memref sig .tc .vmem S2560x128 .bf16) (harg3 : arg3.IsWhole) (arg4 : Memref sig .tc .vmem S1x1x2560 .i32) (harg4 : arg4.IsWhole) (arg5 : Memref sig .tc .vmem S10240x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S2560x128 .f32) (harg11 : arg11.IsWhole)
    (v1 v3 : BitVec 32) (hw : k1_chk2 v1 v3) (b : Vec F S1x1x2560 .i32) (xm : Vec F S10240x128 .f32) (D : Vec F S2560x128 .f32)
    (k : Fin (k1_t1_loop v3).trips) (acc : BitVec 32) :
    (iprop(owns (c : Thread nD τ) arg5 fullShare xm ∗ owns (c : Thread nD τ) arg11 fullShare (sub1 v1 v3 hw b xm D k.val)) : sProp 𝕄)
      ⊢ wp frame (wpE defs 𝒱 (c : Thread nD τ) bd) E (k1_t1_body i arg1 harg1 arg2 harg2 arg3 harg3 arg4 harg4 arg5 harg5 arg6 harg6 arg7 harg7 arg8 harg8 arg9 harg9 arg10 harg10 arg11 harg11 v1 v3 hw (k1_pay4 b) (iota .tc S128x2560 32 [0] iota_S128x2560_d0_w32) 1#32 1#32 k acc)
          (fun _ => iprop(owns (c : Thread nD τ) arg5 fullShare xm ∗ owns (c : Thread nD τ) arg11 fullShare (sub1 v1 v3 hw b xm D (k.val + 1)))) := by
  rw [sub1, dif_pos k.isLt]
  generalize sub1 v1 v3 hw b xm D k.val = D'
  unfold k1_t1_body
  simp only [Prog.lift, Prog.bind_op, Prog.bind_ret, Prog.pure_eq_ret]
  iintro ⟨H5, H11⟩
  iapply (Own.loadW (defs := defs) 𝒱 (c : Thread nD τ) bd E arg11 _ _ _ _ _ fullShare D') $$ H11
  iintro H11
  iapply (Own.load (defs := defs) 𝒱 (c : Thread nD τ) bd E arg5 (Rect.unit (s := S10240x128) (k1_off3 v1 v3 k) S128x128.size (k1_off3_inb v1 v3 hw k)) _ _ _ fullShare xm) $$ H5
  iintro H5
  iapply (Own.loadW (defs := defs) 𝒱 (c : Thread nD τ) bd E arg11 _ _ _ _ _ fullShare D') $$ H11
  iintro H11
  iapply (Own.storeW (defs := defs) 𝒱 (c : Thread nD τ) bd E arg11 _ _ _ _ _ _ _ D') $$ H11
  iintro H11
  iapply (le_wp_ret _ _ _ _ _)
  isplitl [H5]
  · iexact H5
  iexact H11

set_option backward.isDefEq.respectTransparency.types false in
/-- The second kernel's body at one point: the tables and inputs stay, and the result block takes `out1` of them. -/
theorem body1 (defs : Defs nD τ sig (Elt F) Λ₀) (i : grid1.Coords) (arg1 : Memref sig .tc .smem S125 .i32) (harg1 : arg1.IsWhole) (arg2 : Memref sig .tc .smem S125 .i32) (harg2 : arg2.IsWhole) (arg3 : Memref sig .tc .vmem S2560x128 .bf16) (harg3 : arg3.IsWhole) (arg4 : Memref sig .tc .vmem S1x1x2560 .i32) (harg4 : arg4.IsWhole) (arg5 : Memref sig .tc .vmem S10240x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S2560x128 .f32) (harg11 : arg11.IsWhole)
    (B N : Vec F S125 .i32) (h1 : k1_chk1 (word1 i B)) (hw : k1_chk2 (word1 i B) (word1 i N)) (ht2 : (k1_t2_loop (word1 i N)).trips = 0)
    (xb : Vec F S2560x128 .bf16) (b : Vec F S1x1x2560 .i32) (xm : Vec F S10240x128 .f32) (wg : Vec F S128x128 .bf16)
    (bg lw lb : Vec F S1x128 .f32) (al : Vec F S1x1 .f32) (D : Vec F S2560x128 .f32) :
    (iprop(owns (c : Thread nD τ) arg1 fullShare B ∗ owns (c : Thread nD τ) arg2 fullShare N ∗ owns (c : Thread nD τ) arg3 fullShare xb ∗ owns (c : Thread nD τ) arg4 fullShare b ∗ owns (c : Thread nD τ) arg5 fullShare xm ∗ owns (c : Thread nD τ) arg6 fullShare wg ∗ owns (c : Thread nD τ) arg7 fullShare bg ∗ owns (c : Thread nD τ) arg8 fullShare lw ∗ owns (c : Thread nD τ) arg9 fullShare lb ∗ owns (c : Thread nD τ) arg10 fullShare al ∗ owns (c : Thread nD τ) arg11 fullShare D) : sProp 𝕄)
      ⊢ wp frame (wpE defs 𝒱 (c : Thread nD τ) bd) E (cc1__k2_body i arg1 harg1 arg2 harg2 arg3 harg3 arg4 harg4 arg5 harg5 arg6 harg6 arg7 harg7 arg8 harg8 arg9 harg9 arg10 harg10 arg11 harg11)
          (fun _ => iprop(owns (c : Thread nD τ) arg1 fullShare B ∗ owns (c : Thread nD τ) arg2 fullShare N ∗ owns (c : Thread nD τ) arg3 fullShare xb ∗ owns (c : Thread nD τ) arg4 fullShare b ∗ owns (c : Thread nD τ) arg5 fullShare xm ∗ owns (c : Thread nD τ) arg6 fullShare wg ∗ owns (c : Thread nD τ) arg7 fullShare bg ∗ owns (c : Thread nD τ) arg8 fullShare lw ∗ owns (c : Thread nD τ) arg9 fullShare lb ∗ owns (c : Thread nD τ) arg10 fullShare al ∗ owns (c : Thread nD τ) arg11 fullShare (out1 (word1 i B) (word1 i N) h1 hw xb b xm wg bg lw lb al))) := by
  rw [cc1__k2_body_eq_skeleton]
  unfold cc1__k2_body_skel
  rw [k1_part1_eq_skeleton]
  unfold k1_part1_skel
  have hend : out1 (word1 i B) (word1 i N) h1 hw xb b xm wg bg lw lb al = k1_pay3 (sub1 (word1 i B) (word1 i N) hw b xm (k1_pay5 (word1 i B) b xb wg bg
    (View.ld (Val := Elt F) (e' := .f32) xm (Rect.unit (s := S10240x128) (k1_off2 (word1 i B)) S128x128.size (k1_off2_inb (word1 i B) h1)))) (k1_t1_loop (word1 i N)).trips) lw lb al := rfl
  rw [hend]
  simp only [smemLoad, smemLoadElt, Prog.lift, Prog.bind_op, Prog.bind_ret, Prog.pure_eq_ret, Prog.bind_assoc]
  iintro ⟨H1, H2, H3, H4, H5, H6, H7, H8, H9, H10, H11⟩
  iapply (Own.load (defs := defs) 𝒱 (c : Thread nD τ) bd E arg1 (Rect.unit (s := S125) (k1_off1 i) S1.size (k1_off1_inb i)) _ _ _ fullShare B) $$ H1
  iintro H1
  iapply (wp_assume (d := k1_chk1.dec (word1 i B)) 𝒱 (c : Thread nD τ) bd E h1)
  iapply (Own.load (defs := defs) 𝒱 (c : Thread nD τ) bd E arg2 (Rect.unit (s := S125) (k1_off1 i) S1.size (k1_off1_inb i)) _ _ _ fullShare N) $$ H2
  iintro H2
  iapply (wp_assume (d := k1_chk2.dec (word1 i B) (word1 i N)) 𝒱 (c : Thread nD τ) bd E hw)
  iapply (Own.loadW (defs := defs) 𝒱 (c : Thread nD τ) bd E arg4 _ _ _ _ _ fullShare b) $$ H4
  iintro H4
  iapply (Own.loadW (defs := defs) 𝒱 (c : Thread nD τ) bd E arg3 _ _ _ _ _ fullShare xb) $$ H3
  iintro H3
  iapply (Own.loadW (defs := defs) 𝒱 (c : Thread nD τ) bd E arg6 _ _ _ _ _ fullShare wg) $$ H6
  iintro H6
  iapply (Own.loadW (defs := defs) 𝒱 (c : Thread nD τ) bd E arg7 _ _ _ _ _ fullShare bg) $$ H7
  iintro H7
  iapply (Own.load (defs := defs) 𝒱 (c : Thread nD τ) bd E arg5 (Rect.unit (s := S10240x128) (k1_off2 (word1 i B)) S128x128.size (k1_off2_inb (word1 i B) h1)) _ _ _ fullShare xm) $$ H5
  iintro H5
  iapply (Own.loadW (defs := defs) 𝒱 (c : Thread nD τ) bd E arg11 _ _ _ _ _ fullShare D) $$ H11
  iintro H11
  iapply (Own.storeW (defs := defs) 𝒱 (c : Thread nD τ) bd E arg11 _ _ (k1_pay5 (word1 i B) b xb wg bg
    (View.ld (Val := Elt F) (e' := .f32) xm (Rect.unit (s := S10240x128) (k1_off2 (word1 i B)) S128x128.size (k1_off2_inb (word1 i B) h1)))) _ _ _ _ D) $$ H11
  iintro H11
  generalize k1_pay5 (word1 i B) b xb wg bg
    (View.ld (Val := Elt F) (e' := .f32) xm (Rect.unit (s := S10240x128) (k1_off2 (word1 i B)) S128x128.size (k1_off2_inb (word1 i B) h1))) = D0
  iapply (show (iprop(owns (c : Thread nD τ) arg5 fullShare xm ∗ owns (c : Thread nD τ) arg11 fullShare D0) : sProp 𝕄) ⊢ _
    from Scf.wp_for_bind frame (wpE defs 𝒱 (c : Thread nD τ) bd) E _ _ _ _ _ _
      (fun n _ => iprop(owns (c : Thread nD τ) arg5 fullShare xm ∗ owns (c : Thread nD τ) arg11 fullShare (sub1 (word1 i B) (word1 i N) hw b xm D0 n)))
      (fun k acc => s1_trip 𝒱 c bd E defs i arg1 harg1 arg2 harg2 arg3 harg3 arg4 harg4 arg5 harg5 arg6 harg6 arg7 harg7 arg8 harg8 arg9 harg9 arg10 harg10 arg11 harg11 (word1 i B) (word1 i N) hw b xm D0 k acc)) $$ [H5 H11]
  · isplitl [H5]
    · iexact H5
    iexact H11
  iintro %acc ⟨H5, H11⟩
  iapply (show (iprop(emp) : sProp 𝕄) ⊢ _ from Scf.wp_for_bind frame (wpE defs 𝒱 (c : Thread nD τ) bd) E (k1_t2_loop (word1 i N)).lb (k1_t2_loop (word1 i N)).ub (k1_t2_loop (word1 i N)).st _ _ _
    (fun _ _ => iprop(emp)) (fun k _ => absurd k.isLt (Nat.not_lt.mpr ((Nat.le_of_eq ht2).trans (Nat.zero_le _))))) $$ []
  · iempintro
  iintro %acc1 -
  generalize sub1 (word1 i B) (word1 i N) hw b xm D0 (k1_t1_loop (word1 i N)).trips = D1
  iapply (Own.loadW (defs := defs) 𝒱 (c : Thread nD τ) bd E arg11 _ _ _ _ _ fullShare D1) $$ H11
  iintro H11
  iapply (Own.loadW (defs := defs) 𝒱 (c : Thread nD τ) bd E arg8 _ _ _ _ _ fullShare lw) $$ H8
  iintro H8
  iapply (Own.loadW (defs := defs) 𝒱 (c : Thread nD τ) bd E arg9 _ _ _ _ _ fullShare lb) $$ H9
  iintro H9
  iapply (Own.loadW (defs := defs) 𝒱 (c : Thread nD τ) bd E arg10 _ _ _ _ _ fullShare al) $$ H10
  iintro H10
  iapply (Own.loadW (defs := defs) 𝒱 (c : Thread nD τ) bd E arg11 _ _ _ _ _ fullShare D1) $$ H11
  iintro H11
  iapply (Own.storeW (defs := defs) 𝒱 (c : Thread nD τ) bd E arg11 _ _ _ _ _ _ _ D1) $$ H11
  iintro H11
  iapply (le_wp_ret _ _ _ _ _)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iexact H11

end Triples

end Cert.KernelIdeal.Hand

end
-- ==== Proof.KernelIdeal.Region0.lean ====
/-
  The first kernel's pipeline: what each window's buffer and the accumulator hold at every grid point, as functions of
  the arrays and tables the region is entered with, and the body obligation that says the body does that.
-/
module

public import proofs.«01_k».proof.Proof.KernelIdeal.Body
public import proofs.«01_k».proof.Proof.Gen.KernelIdeal.Regions

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The certificate's resource algebra: the pipeline library's own, and counters. -/
abbrev UU : Type := UR sig nD τ × Counters

local notation "𝕄" => MT nD τ sig Unit (Elt F) ℕ UU ℕ

/-- Contents of the tables, per pipeline. -/
abbrev Tabs : Type := (p : Fin 2) → (pcfgs (F := F) p).Adm

/-- The table of bases and the table of chunk counts, as the first pipeline reads them. -/
def tB0 (a : Tabs (F := F)) : Vec F S125 .i32 := (a 0).1 0
@[inherit_doc tB0] def tN0 (a : Tabs (F := F)) : Vec F S125 .i32 := (a 0).1 1

/-- The first kernel's checks hold of the tables: its window of rows is inside the accumulator, and the loop's
    remainder is empty. -/
structure Ok0 (a : Tabs (F := F)) : Prop where
  chk : ∀ i : grid0.Coords, k0_chk1 (word0 i (tB0 a)) (word0 i (tN0 a))
  rem : ∀ i : grid0.Coords, (k0_t2_loop (word0 i (tN0 a))).trips = 0

section Data

variable (a : Tabs (F := F)) (h0 : Ok0 a) (W : Valuation τ sig (Elt F))

/-- The block of rows a point works on. -/
def xAt (t : Fin (cfg0 (F := F) (a 0)).N) : Vec F S2560x128 .f32 :=
  ((win0 (a 0) 0).blk t).view.read (Elt F) (W (Proc.devRef .tc (Pipeline.arrRef spec0 0)))
/-- The block of segment ids a point works on. -/
def bAt (t : Fin (cfg0 (F := F) (a 0)).N) : Vec F S1x1x2560 .i32 :=
  ((win0 (a 0) 1).blk t).view.read (Elt F) (W (Proc.devRef .tc (Pipeline.arrRef spec0 1)))
/-- The weights, whole, at every point. -/
def wAt (t : Fin (cfg0 (F := F) (a 0)).N) : Vec F S128x128 .f32 :=
  ((win0 (a 0) 2).blk t).view.read (Elt F) (W (Proc.devRef .tc (Pipeline.arrRef spec0 2)))

/-- The accumulator after point `t`, from the contents before it. -/
def accStep (t : Fin (cfg0 (F := F) (a 0)).N) (A : Vec F S10240x128 .f32) : Vec F S10240x128 .f32 :=
  scatEnd (grid0.coords t) (word0 (grid0.coords t) (tB0 a)) (word0 (grid0.coords t) (tN0 a)) (h0.chk (grid0.coords t))
    (bAt a W t) (xAt a W t) A

/-- The accumulator before point `n`, from what it held before the first. -/
def accAt (A : Vec F S10240x128 .f32) : Nat → Vec F S10240x128 .f32
  | 0 => A
  | n + 1 => if h : n < (cfg0 (F := F) (a 0)).N then accStep a h0 W ⟨n, h⟩ (accAt A n) else accAt A n

/-- Some contents: which is immaterial, since nothing reads them. -/
def junkA : Vec F S10240x128 .f32 := k0_pay1

/-- What the first kernel leaves in its projected result, from the contents `O` it found there. -/
def projAt (t : Fin (cfg0 (F := F) (a 0)).N) (O : Vec F S10240x128 .f32) : Vec F S10240x128 .f32 :=
  projEnd (grid0.coords t) (accAt a h0 W junkA (t.val + 1)) (wAt a W t) O

/-- The invariant before point `n`: the accumulator at its contents, the other scoped buffers, the tables. -/
def Phi0 (c : Dev nD) (n : Nat) : sProp 𝕄 :=
  iprop((∃ A : Vec F S10240x128 .f32, owns (c : Thread nD τ) (Memref.whole cc0_scratch0) fullShare (accAt a h0 W A n))
    ∗ Pipeline.scopedRestBut (Ix := Unit) (Name := ℕ) (U := UU) (Lvl := ℕ) (Val := Elt F) spec0 c [cc0_scratch0]
    ∗ Pipeline.prefHeld (Ix := Unit) (Name := ℕ) (U := UU) (Lvl := ℕ) pre0 c (fun _ => fullShare) (a 0).1)

/-- The first pipeline's proof data, entered at the valuation `W`. -/
def dat0 (c : Dev nD) : Dat τ (Elt F) Unit ℕ UU ℕ (cfg0 (F := F) (a 0)) c where
  A w := W (Proc.devRef .tc (Pipeline.arrRef spec0 w))
  after w t := match w with
    | ⟨0, _⟩ => xAt a W t
    | ⟨1, _⟩ => bAt a W t
    | ⟨2, _⟩ => wAt a W t
    | ⟨3, _⟩ => projAt a h0 W t junkA
    | ⟨4, _⟩ => k0_pay3 (xAt a W t)
  Φ t := Phi0 a h0 W c t.val
  q _ := fullShare
  owed _ := 0

theorem before0_0 (c : Dev nD) (t : Fin (cfg0 (F := F) (a 0)).N) (d) : (dat0 a h0 W c).before 0 t d = xAt a W t :=
  (dat0 a h0 W c).before_in_eq_fetched 0 rfl (fun _ => rfl) (fun _ _ _ => rfl) (fun _ => rfl) t d
theorem before0_1 (c : Dev nD) (t : Fin (cfg0 (F := F) (a 0)).N) (d) : (dat0 a h0 W c).before 1 t d = bAt a W t :=
  (dat0 a h0 W c).before_in_eq_fetched 1 rfl (fun _ => rfl) (fun _ _ _ => rfl) (fun _ => rfl) t d
theorem before0_2 (c : Dev nD) (t : Fin (cfg0 (F := F) (a 0)).N) (d) : (dat0 a h0 W c).before 2 t d = wAt a W t :=
  (dat0 a h0 W c).before_in_eq_fetched 2 rfl (fun _ => rfl) (fun _ _ _ => rfl) (fun _ => rfl) t d

end Data

/-! ## What a point writes does not depend on what it found -/

theorem coords0_val (t : Fin grid0.N) : (grid0.coords t 0).val = t.val := by
  have h := Pipeline.Grid.coords_val (G := grid0) t 0 (S := 1) (B := 125) (by decide) (by decide)
  have hN : t.val < 125 := t.isLt.trans_eq N_0
  rw [h]; omega

theorem cond1_zero (i : grid0.Coords) (h : (i 0).val = 0) : cond1 i = 1#1 := by
  unfold cond1; rw [h]; decide

theorem trips4 : k0_t3_loop.trips = 4 := by decide

/-- The offsets of the projection loop's windows. -/
theorem off4_eq (k : Fin k0_t3_loop.trips) : k0_off4 k = ![2560 * k.val, 0] := by
  revert k; decide

/-- The last point is the one that projects. -/
theorem cond2_iff (i : grid0.Coords) : k0_cond2 i = 1#1 ↔ (i 0).val = 124 := by
  have h : (i 0).val < 125 := (i 0).isLt
  unfold k0_cond2
  generalize (i 0).val = n at h
  revert n; decide

/-- After `n` trips the rows below `2560 * n` do not depend on what the result's buffer held. -/
theorem proj_indep (i : grid0.Coords) (h : k0_cond2 i = 1#1) (A : Vec F S10240x128 .f32) (w : Vec F S128x128 .f32)
    (O O' : Vec F S10240x128 .f32) : ∀ n, n ≤ 4 → ∀ j : S10240x128.Idx, (j 0).val < 2560 * n →
      proj i h A w O n j = proj i h A w O' n j
  | 0, _, j, hj => absurd hj (by omega)
  | n + 1, hn, j, hj => by
    have ht : n < k0_t3_loop.trips := by rw [trips4]; omega
    rw [proj, proj, dif_pos ht, dif_pos ht]
    unfold proj1
    by_cases hm : j ∈ (rect4 i h ⟨n, ht⟩).set
    · rw [← Rect.map_emb_univ] at hm
      obtain ⟨y, -, rfl⟩ := Finset.mem_map.mp hm
      exact (Rect.overlay_emb _ _ _ _).trans (Rect.overlay_emb _ _ _ _).symm
    · rw [Rect.overlay_of_not_mem _ _ _ hm, Rect.overlay_of_not_mem _ _ _ hm]
      refine proj_indep i h A w O O' n (by omega) j ?_
      by_contra hlt
      refine hm (Rect.mem_set_unit.mpr fun a => ?_)
      have hj1 : (j 1).val < 128 := (j 1).isLt
      rw [off4_eq]
      revert a
      refine Fin.forall_fin_two.mpr ⟨⟨?_, ?_⟩, ⟨?_, ?_⟩⟩
      · show 2560 * n ≤ (j 0).val; omega
      · show (j 0).val < 2560 * n + 2560; omega
      · show 0 ≤ (j 1).val; omega
      · show (j 1).val < 0 + 128; omega

theorem projEnd_indep (i : grid0.Coords) (h : k0_cond2 i = 1#1) (A : Vec F S10240x128 .f32) (w : Vec F S128x128 .f32)
    (O O' : Vec F S10240x128 .f32) : projEnd i A w O = projEnd i A w O' := by
  unfold projEnd; rw [dif_pos h, dif_pos h, trips4]
  exact funext fun j => proj_indep i h A w O O' 4 le_rfl j (j 0).isLt

section Data

variable (a : Tabs (F := F)) (h0 : Ok0 a) (W : Valuation τ sig (Elt F))

/-- After the first point the accumulator does not depend on what it held before it. -/
theorem accAt_indep (A A' : Vec F S10240x128 .f32) : ∀ n, accAt a h0 W A (n + 1) = accAt a h0 W A' (n + 1)
  | 0 => by
    have hN : 0 < (cfg0 (F := F) (a 0)).N := by show 0 < grid0.N; decide
    have hc : cond1 (grid0.coords ⟨0, hN⟩) = 1#1 := cond1_zero _ (coords0_val _)
    rw [accAt, accAt.eq_2 a h0 W A' 0, dif_pos hN, dif_pos hN]
    unfold accStep scatEnd start
    rw [if_pos hc, if_pos hc]
  | n + 1 => by
    rw [accAt, accAt.eq_2 a h0 W A' (n + 1), accAt_indep A A' n]

theorem accAt_succ (A : Vec F S10240x128 .f32) (t : Fin (cfg0 (F := F) (a 0)).N) :
    accAt a h0 W A (t.val + 1) = accStep a h0 W t (accAt a h0 W A t.val) := by
  rw [accAt, dif_pos t.isLt]

/-- The projected result's window is written back at the last point only. -/
theorem flush3 (t : Fin (cfg0 (F := F) (a 0)).N) : ((cfg0 (F := F) (a 0)).win 3).flush t = true ↔ t.val = 124 := by
  have h := Window.flush_const ((cfg0 (F := F) (a 0)).win 3) rfl (fun _ _ => rfl) (n := 125) (m := 124) N_0 rfl t
  have hN : t.val < 125 := t.isLt.trans_eq N_0
  rw [h]; omega

/-- The tables, taken apart. -/
theorem tables0_eq (c : Dev nD) :
    (Pipeline.prefHeld (Ix := Unit) (Name := ℕ) (U := UU) (Lvl := ℕ) pre0 c (fun _ => fullShare) (a 0).1 : sProp 𝕄)
      = iprop(owns (c : Thread nD τ) (Memref.whole main_call0_v4) fullShare (tB0 a)
          ∗ owns (c : Thread nD τ) (Memref.whole main_call0_v8) fullShare (tN0 a)) := by
  unfold Pipeline.prefHeld
  rw [bigSep_univ_eq_bigSepL [(0 : Fin 2), (1 : Fin 2)] (by decide) (by decide)]
  rw [owns_whole, owns_whole]
  rfl

set_option backward.isDefEq.respectTransparency.types false in
/-- The body obligation of the first pipeline. -/
theorem body_obligation0 (c : Dev nD) : BodyObligation (dat0 a h0 W c) (defs₀ (F := F)) Variants.none () Set.univ := fun t => by
  rw [bigSep_W0, bigSep_W0]
  rw [show (dat0 a h0 W c).Φ t.castSucc = Phi0 a h0 W c t.val from rfl, show (dat0 a h0 W c).Φ t.succ = Phi0 a h0 W c (t.val + 1) from rfl,
    show (dat0 a h0 W c).owesAt () t.succ = (dat0 a h0 W c).owesAt () t.castSucc from rfl]
  simp only [before0_0, before0_1, before0_2]
  unfold Phi0
  rw [tables0_eq]
  iintro ⟨⟨⟨%A, HA⟩, Hrest, HB, HN⟩, Howes, ⟨%d0, H0⟩, ⟨%d1, H1⟩, ⟨%d2, H2⟩, ⟨%d3, H3⟩, ⟨%d4, H4⟩⟩
  iapply (wp_wand_r)
  isplitl [HA HB HN H0 H1 H2 H3 H4]
  · iapply (body0 (U := UU) Variants.none c none Set.univ defs₀ (grid0.coords t) (Memref.whole main_call0_v4) (Memref.isWhole_whole _) (Memref.whole main_call0_v8) (Memref.isWhole_whole _)
      (spec0_0.stage ((cfg0 (F := F) (a 0)).slots t 0)) (hstage0_0 _) (spec0_1.stage ((cfg0 (F := F) (a 0)).slots t 1)) (hstage0_1 _)
      (spec0_2.stage ((cfg0 (F := F) (a 0)).slots t 2)) (hstage0_2 _) (spec0_3.stage ((cfg0 (F := F) (a 0)).slots t 3)) (hstage0_3 _)
      (spec0_4.stage ((cfg0 (F := F) (a 0)).slots t 4)) (hstage0_4 _) (Memref.whole cc0_scratch0) (Memref.isWhole_whole _) (tB0 a) (tN0 a) (h0.chk _) (h0.rem _)
      (xAt a W t) (bAt a W t) (wAt a W t) _ _ (accAt a h0 W A t.val))
    isplitl [HB]; · iexact HB
    isplitl [HN]; · iexact HN
    isplitl [H0]; · iexact H0
    isplitl [H1]; · iexact H1
    isplitl [H2]; · iexact H2
    isplitl [H3]; · iexact H3
    isplitl [H4]; · iexact H4
    iexact HA
  iintro %_ ⟨HB, HN, H0, H1, H2, H3, H4, HA⟩
  isplitl [HA Hrest HB HN]
  · isplitl [HA]
    · iexists A; rw [accAt_succ]; iexact HA
    isplitl [Hrest]; · iexact Hrest
    isplitl [HB]; · iexact HB
    iexact HN
  isplitl [Howes]; · iexact Howes
  isplitl [H0]; · iexact H0
  isplitl [H1]; · iexact H1
  isplitl [H2]; · iexact H2
  isplitl [H3]
  · by_cases hl : k0_cond2 (grid0.coords t) = 1#1
    · have hi : idle0 3 (((pcfg0 (F := F)).gridAt (a 0).1).coords t) = false := by
        show (!(k0_cond2 (grid0.coords t) == 1#1)) = false
        rw [hl]; rfl
      have hp : projAt a h0 W t junkA = projEnd (grid0.coords t) (accStep a h0 W t (accAt a h0 W A t.val)) (wAt a W t) ((dat0 a h0 W c).before 3 t d3) := by
        unfold projAt
        rw [accAt_indep a h0 W junkA A, accAt_succ]
        exact projEnd_indep _ hl _ _ _ _
      rw [hi]
      rw [show (dat0 a h0 W c).after 3 t = projAt a h0 W t junkA from rfl, hp]
      iexact H3
    · have hi : idle0 3 (((pcfg0 (F := F)).gridAt (a 0).1).coords t) = true := by
        show (!(k0_cond2 (grid0.coords t) == 1#1)) = true
        rw [beq_false_of_ne hl]; rfl
      have hf : ((cfg0 (F := F) (a 0)).win 3).flush t = false := by
        rw [← Bool.not_eq_true]
        intro hh; have h := (flush3 a t).mp hh; exact hl ((cond2_iff _).mpr ((coords0_val _).trans h))
      rw [hi]
      dsimp only
      split
      · iexists d3
        unfold projEnd
        rw [dif_neg hl]
        iexact H3
      · rename_i hf'; exact absurd (hf.symm.trans hf') (by decide)
  iexact H4

end Data

end Cert.KernelIdeal.Hand
-- ==== Proof.KernelIdeal.Region1.lean ====
/-
  The second kernel's pipeline: what each window's buffer holds at every grid point, as functions of the arrays and
  tables the region is entered with, and the body obligation that says the body does that.
-/
module

public import proofs.«01_k».proof.Proof.KernelIdeal.Region0

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- The table of bases and the table of chunk counts, as the second pipeline reads them. -/
def tB1 (a : Tabs (F := F)) : Vec F S125 .i32 := (a 1).1 0
@[inherit_doc tB1] def tN1 (a : Tabs (F := F)) : Vec F S125 .i32 := (a 1).1 1

/-- The second kernel's checks hold of the tables: its windows of rows are inside the projected sums, and the loop's
    remainder is empty. -/
structure Ok1 (a : Tabs (F := F)) : Prop where
  chk1 : ∀ i : grid1.Coords, k1_chk1 (word1 i (tB1 a))
  chk2 : ∀ i : grid1.Coords, k1_chk2 (word1 i (tB1 a)) (word1 i (tN1 a))
  rem : ∀ i : grid1.Coords, (k1_t2_loop (word1 i (tN1 a))).trips = 0

section Data

variable (a : Tabs (F := F)) (h1 : Ok1 a) (W : Valuation τ sig (Elt F))

/-- The block of rounded rows a point works on. -/
def xbAt1 (t : Fin (cfg1 (F := F) (a 1)).N) : Vec F S2560x128 .bf16 :=
  ((win1 (a 1) 0).blk t).view.read (Elt F) (W (Proc.devRef .tc (Pipeline.arrRef spec1 0)))
/-- The block of segment ids a point works on. -/
def b1At1 (t : Fin (cfg1 (F := F) (a 1)).N) : Vec F S1x1x2560 .i32 :=
  ((win1 (a 1) 1).blk t).view.read (Elt F) (W (Proc.devRef .tc (Pipeline.arrRef spec1 1)))
/-- The projected sums, whole. -/
def xmAt1 (t : Fin (cfg1 (F := F) (a 1)).N) : Vec F S10240x128 .f32 :=
  ((win1 (a 1) 2).blk t).view.read (Elt F) (W (Proc.devRef .tc (Pipeline.arrRef spec1 2)))
/-- The second weights, whole. -/
def wgAt1 (t : Fin (cfg1 (F := F) (a 1)).N) : Vec F S128x128 .bf16 :=
  ((win1 (a 1) 3).blk t).view.read (Elt F) (W (Proc.devRef .tc (Pipeline.arrRef spec1 3)))
/-- Their bias. -/
def bgAt1 (t : Fin (cfg1 (F := F) (a 1)).N) : Vec F S1x128 .f32 :=
  ((win1 (a 1) 4).blk t).view.read (Elt F) (W (Proc.devRef .tc (Pipeline.arrRef spec1 4)))
/-- The normalisation's scale. -/
def lwAt1 (t : Fin (cfg1 (F := F) (a 1)).N) : Vec F S1x128 .f32 :=
  ((win1 (a 1) 5).blk t).view.read (Elt F) (W (Proc.devRef .tc (Pipeline.arrRef spec1 5)))
/-- The normalisation's shift. -/
def lbAt1 (t : Fin (cfg1 (F := F) (a 1)).N) : Vec F S1x128 .f32 :=
  ((win1 (a 1) 6).blk t).view.read (Elt F) (W (Proc.devRef .tc (Pipeline.arrRef spec1 6)))
/-- The slope of the activation. -/
def alAt1 (t : Fin (cfg1 (F := F) (a 1)).N) : Vec F S1x1 .f32 :=
  ((win1 (a 1) 7).blk t).view.read (Elt F) (W (Proc.devRef .tc (Pipeline.arrRef spec1 7)))

/-- The block of results a point leaves. -/
def outAt1 (t : Fin (cfg1 (F := F) (a 1)).N) : Vec F S2560x128 .f32 :=
  out1 (word1 (grid1.coords t) (tB1 a)) (word1 (grid1.coords t) (tN1 a)) (h1.chk1 (grid1.coords t)) (h1.chk2 (grid1.coords t))
    (xbAt1 a W t) (b1At1 a W t) (xmAt1 a W t) (wgAt1 a W t) (bgAt1 a W t) (lwAt1 a W t) (lbAt1 a W t) (alAt1 a W t)

/-- The invariant: the scoped buffers no window stages, and the tables. -/
def Phi1 (c : Dev nD) : sProp 𝕄 :=
  iprop(Pipeline.scopedRest (Ix := Unit) (Name := ℕ) (U := UU) (Lvl := ℕ) (Val := Elt F) spec1 c
    ∗ Pipeline.prefHeld (Ix := Unit) (Name := ℕ) (U := UU) (Lvl := ℕ) pre1 c (fun _ => fullShare) (a 1).1)

/-- The second pipeline's proof data, entered at the valuation `W`. -/
def dat1 (c : Dev nD) : Dat τ (Elt F) Unit ℕ UU ℕ (cfg1 (F := F) (a 1)) c where
  A w := W (Proc.devRef .tc (Pipeline.arrRef spec1 w))
  after w t := match w with
    | ⟨0, _⟩ => xbAt1 a W t
    | ⟨1, _⟩ => b1At1 a W t
    | ⟨2, _⟩ => xmAt1 a W t
    | ⟨3, _⟩ => wgAt1 a W t
    | ⟨4, _⟩ => bgAt1 a W t
    | ⟨5, _⟩ => lwAt1 a W t
    | ⟨6, _⟩ => lbAt1 a W t
    | ⟨7, _⟩ => alAt1 a W t
    | ⟨8, _⟩ => outAt1 a h1 W t
  Φ _ := Phi1 a c
  q _ := fullShare
  owed _ := 0

theorem before1_0 (c : Dev nD) (t : Fin (cfg1 (F := F) (a 1)).N) (d) : (dat1 a h1 W c).before 0 t d = xbAt1 a W t :=
  (dat1 a h1 W c).before_in_eq_fetched 0 rfl (fun _ => rfl) (fun _ _ _ => rfl) (fun _ => rfl) t d
theorem before1_1 (c : Dev nD) (t : Fin (cfg1 (F := F) (a 1)).N) (d) : (dat1 a h1 W c).before 1 t d = b1At1 a W t :=
  (dat1 a h1 W c).before_in_eq_fetched 1 rfl (fun _ => rfl) (fun _ _ _ => rfl) (fun _ => rfl) t d
theorem before1_2 (c : Dev nD) (t : Fin (cfg1 (F := F) (a 1)).N) (d) : (dat1 a h1 W c).before 2 t d = xmAt1 a W t :=
  (dat1 a h1 W c).before_in_eq_fetched 2 rfl (fun _ => rfl) (fun _ _ _ => rfl) (fun _ => rfl) t d
theorem before1_3 (c : Dev nD) (t : Fin (cfg1 (F := F) (a 1)).N) (d) : (dat1 a h1 W c).before 3 t d = wgAt1 a W t :=
  (dat1 a h1 W c).before_in_eq_fetched 3 rfl (fun _ => rfl) (fun _ _ _ => rfl) (fun _ => rfl) t d
theorem before1_4 (c : Dev nD) (t : Fin (cfg1 (F := F) (a 1)).N) (d) : (dat1 a h1 W c).before 4 t d = bgAt1 a W t :=
  (dat1 a h1 W c).before_in_eq_fetched 4 rfl (fun _ => rfl) (fun _ _ _ => rfl) (fun _ => rfl) t d
theorem before1_5 (c : Dev nD) (t : Fin (cfg1 (F := F) (a 1)).N) (d) : (dat1 a h1 W c).before 5 t d = lwAt1 a W t :=
  (dat1 a h1 W c).before_in_eq_fetched 5 rfl (fun _ => rfl) (fun _ _ _ => rfl) (fun _ => rfl) t d
theorem before1_6 (c : Dev nD) (t : Fin (cfg1 (F := F) (a 1)).N) (d) : (dat1 a h1 W c).before 6 t d = lbAt1 a W t :=
  (dat1 a h1 W c).before_in_eq_fetched 6 rfl (fun _ => rfl) (fun _ _ _ => rfl) (fun _ => rfl) t d
theorem before1_7 (c : Dev nD) (t : Fin (cfg1 (F := F) (a 1)).N) (d) : (dat1 a h1 W c).before 7 t d = alAt1 a W t :=
  (dat1 a h1 W c).before_in_eq_fetched 7 rfl (fun _ => rfl) (fun _ _ _ => rfl) (fun _ => rfl) t d

/-- The tables, taken apart. -/
theorem tables1_eq (c : Dev nD) :
    (Pipeline.prefHeld (Ix := Unit) (Name := ℕ) (U := UU) (Lvl := ℕ) pre1 c (fun _ => fullShare) (a 1).1 : sProp 𝕄)
      = iprop(owns (c : Thread nD τ) (Memref.whole main_call0_v4) fullShare (tB1 a)
          ∗ owns (c : Thread nD τ) (Memref.whole main_call0_v8) fullShare (tN1 a)) := by
  unfold Pipeline.prefHeld
  rw [bigSep_univ_eq_bigSepL [(0 : Fin 2), (1 : Fin 2)] (by decide) (by decide)]
  rw [owns_whole, owns_whole]
  rfl

set_option backward.isDefEq.respectTransparency.types false in
/-- The body obligation of the second pipeline. -/
theorem body_obligation1 (c : Dev nD) : BodyObligation (dat1 a h1 W c) (defs₀ (F := F)) Variants.none () Set.univ := fun t => by
  rw [bigSep_W1, bigSep_W1]
  rw [show (dat1 a h1 W c).Φ t.castSucc = Phi1 a c from rfl, show (dat1 a h1 W c).Φ t.succ = Phi1 a c from rfl,
    show (dat1 a h1 W c).owesAt () t.succ = (dat1 a h1 W c).owesAt () t.castSucc from rfl]
  simp only [before1_0, before1_1, before1_2, before1_3, before1_4, before1_5, before1_6, before1_7]
  unfold Phi1
  rw [tables1_eq]
  iintro ⟨⟨Hrest, HB, HN⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r)
  isplitl [HB HN H0 H1 H2 H3 H4 H5 H6 H7 H8]
  · iapply (body1 (U := UU) Variants.none c none Set.univ defs₀ (grid1.coords t) (Memref.whole main_call0_v4) (Memref.isWhole_whole _) (Memref.whole main_call0_v8) (Memref.isWhole_whole _)
      (spec1_0.stage ((cfg1 (F := F) (a 1)).slots t 0)) (hstage1_0 _)
      (spec1_1.stage ((cfg1 (F := F) (a 1)).slots t 1)) (hstage1_1 _)
      (spec1_2.stage ((cfg1 (F := F) (a 1)).slots t 2)) (hstage1_2 _)
      (spec1_3.stage ((cfg1 (F := F) (a 1)).slots t 3)) (hstage1_3 _)
      (spec1_4.stage ((cfg1 (F := F) (a 1)).slots t 4)) (hstage1_4 _)
      (spec1_5.stage ((cfg1 (F := F) (a 1)).slots t 5)) (hstage1_5 _)
      (spec1_6.stage ((cfg1 (F := F) (a 1)).slots t 6)) (hstage1_6 _)
      (spec1_7.stage ((cfg1 (F := F) (a 1)).slots t 7)) (hstage1_7 _)
      (spec1_8.stage ((cfg1 (F := F) (a 1)).slots t 8)) (hstage1_8 _)
      (tB1 a) (tN1 a) (h1.chk1 _) (h1.chk2 _) (h1.rem _) (xbAt1 a W t) (b1At1 a W t) (xmAt1 a W t) (wgAt1 a W t) (bgAt1 a W t) (lwAt1 a W t) (lbAt1 a W t) (alAt1 a W t) _)
    isplitl [HB]; · iexact HB
    isplitl [HN]; · iexact HN
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨HB, HN, H0, H1, H2, H3, H4, H5, H6, H7, H8⟩
  isplitl [Hrest HB HN]
  · isplitl [Hrest]; · iexact Hrest
    isplitl [HB]; · iexact HB
    iexact HN
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Data

end Cert.KernelIdeal.Hand
-- ==== Proof.KernelIdeal.Run.lean ====
/-
  The whole run: the host operations, the two pipelines and the thread state between them, from a memory whose tables
  meet the bodies' checks. `run_main` gives, for every weakly fair execution, the result the second pipeline writes, the
  arguments as launched and every semaphore counter at zero.
-/
module

public import proofs.«01_k».proof.Proof.KernelIdeal.Region1
public import Idealize.ShloMosaic.Lib.Pipeline.RegionArraysTS

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ UU ℕ

/-- Where the pipeline library's algebra sits in the certificate's. -/
abbrev EP : Emb (UR sig nD τ) (MT nD τ sig Unit (Elt F) ℕ UU ℕ) := embL

/-- Every TensorCore cell may be waited on at the one index. -/
def L : GSem nD τ sig → Finset Unit := fun g => if g.1.2 = .tc then {()} else ∅
/-- All at level zero. -/
def lv : GSem nD τ sig → Unit → ℕ := fun _ _ => 0

theorem L_off (g : GSem nD τ sig) (h : g.1.2 ≠ .tc) : L g = ∅ := if_neg h

section Vals

variable (m : (ℓ : Loc nD τ sig) → Buf (Elt F) ℓ)

/-- The tables as the host operations leave them (the mesh has one core). -/
def tabs : Tabs (F := F)
  | ⟨0, _⟩ => ⟨fun k => V1 m 0 (Proc.devRef .tc (pre0.ref k)), trivial⟩
  | ⟨1, _⟩ => ⟨fun k => V1 m 0 (Proc.devRef .tc (pre1.ref k)), trivial⟩

variable (h0 : Ok0 (tabs m)) (h1 : Ok1 (tabs m))

/-- The unscoped buffers after the first pipeline. -/
def U2 (c : Dev nD) : Valuation τ sig (Elt F) := Pipeline.afterRegion (dat0 (tabs m) h0 (V1 m c) c) (V1 m c)
/-- After the second host stretch. -/
def U3 (c : Dev nD) : Valuation τ sig (Elt F) := StableHlo.after hostOps1 (U2 m h0 c)
/-- After the second pipeline. -/
def U4 (c : Dev nD) : Valuation τ sig (Elt F) := Pipeline.afterRegion (dat1 (tabs m) h1 (U3 m h0 c) c) (U3 m h0 c)

/-- Both pipelines' proof data. -/
def pdats : (p : Fin 2) → (c : Dev nD) → Dat τ (Elt F) Unit ℕ UU ℕ (Pipeline.pin (pcfgs (F := F)) (tabs m) p) c
  | ⟨0, _⟩ => fun c => dat0 (tabs m) h0 (V1 m c) c
  | ⟨1, _⟩ => fun c => dat1 (tabs m) h1 (U3 m h0 c) c

/-- A buffer no window of the first pipeline is over comes through it. -/
theorem U2_of_not (c : Dev nD) {r : Ref sig .tc} (h : ∀ w, r ≠ Pipeline.arrRef spec0 w) :
    U2 m h0 c (Proc.devRef .tc r) = V1 m c (Proc.devRef .tc r) :=
  Pipeline.afterRegion_of_not_arr (dat0 (tabs m) h0 (V1 m c) c) (V1 m c) h

/-- A buffer a window of the first pipeline is over holds what the pipeline computes. -/
theorem U2_arr (c : Dev nD) (w : Fin 5) :
    U2 m h0 c (Proc.devRef .tc (Pipeline.arrRef spec0 w)) = (dat0 (tabs m) h0 (V1 m c) c).arrAt w (cfg0 (F := F) (tabs m 0)).N :=
  Pipeline.afterRegion_arr (dat0 (tabs m) h0 (V1 m c) c) (V1 m c) winFacts0.arr_inj w

/-- What an input window of the first pipeline is over comes through it. -/
theorem U2_in (c : Dev nD) (w : Fin 5) (hw : (spec0 w).isOut = false) :
    U2 m h0 c (Proc.devRef .tc (Pipeline.arrRef spec0 w)) = V1 m c (Proc.devRef .tc (Pipeline.arrRef spec0 w)) :=
  (U2_arr m h0 c w).trans ((dat0 (tabs m) h0 (V1 m c) c).arrAt_in w hw _)

theorem U3_of (c : Dev nD) (r : Ref sig .tc) (h : r ∉ hostOps1_W) : U3 m h0 c (Proc.devRef .tc r) = U2 m h0 c (Proc.devRef .tc r) :=
  StableHlo.after_of_writes_sub hostOps1 _ hostOps1_writes h

theorem U4_of_not (c : Dev nD) {r : Ref sig .tc} (h : ∀ w, r ≠ Pipeline.arrRef spec1 w) :
    U4 m h0 h1 c (Proc.devRef .tc r) = U3 m h0 c (Proc.devRef .tc r) :=
  Pipeline.afterRegion_of_not_arr (dat1 (tabs m) h1 (U3 m h0 c) c) (U3 m h0 c) h

theorem U4_arr (c : Dev nD) (w : Fin 9) :
    U4 m h0 h1 c (Proc.devRef .tc (Pipeline.arrRef spec1 w)) = (dat1 (tabs m) h1 (U3 m h0 c) c).arrAt w (cfg1 (F := F) (tabs m 1)).N :=
  Pipeline.afterRegion_arr (dat1 (tabs m) h1 (U3 m h0 c) c) (U3 m h0 c) winFacts1.arr_inj w

/-- The kernel's first argument comes through. -/
theorem U4_arg0 (c : Dev nD) : U4 m h0 h1 c main_arg0 = m ((c : Thread nD τ).loc main_arg0) :=
  (U4_of_not m h0 h1 c (r := main_arg0) (by decide)).trans <| (U3_of m h0 c main_arg0 (by decide)).trans <|
    (U2_in m h0 c 0 rfl).trans (V1_of m c main_arg0 (by decide))

/-- An argument no window is over comes through. -/
theorem U4_arg (c : Dev nD) (r : Ref sig .tc) (h1' : ∀ w, r ≠ Pipeline.arrRef spec1 w) (h2 : r ∉ hostOps1_W)
    (h3 : ∀ w, r ≠ Pipeline.arrRef spec0 w) (h4 : r ∉ hostOps0_W) : U4 m h0 h1 c (Proc.devRef .tc r) = m ((c : Thread nD τ).loc r) :=
  (U4_of_not m h0 h1 c h1').trans <| (U3_of m h0 c r h2).trans <| (U2_of_not m h0 c h3).trans (V1_of m c r h4)

theorem tabs0 (c : Dev nD) (k : Fin 2) : (tabs m 0).1 k = V1 m c (Proc.devRef .tc (pre0.ref k)) := by
  obtain rfl : c = 0 := Subsingleton.elim _ _
  rfl

theorem tabs1 (c : Dev nD) (k : Fin 2) : (tabs m 1).1 k = U3 m h0 c (Proc.devRef .tc (pre1.ref k)) := by
  obtain rfl : c = 0 := Subsingleton.elim _ _
  refine Eq.symm ((U3_of m h0 0 (pre1.ref k) ?_).trans ((U2_of_not m h0 0 ?_).trans ?_))
  · revert k; decide
  · revert k; decide
  · rfl

end Vals

section Run

variable (m : (ℓ : Loc nD τ sig) → Buf (Elt F) ℓ) (h0 : Ok0 (tabs m)) (h1 : Ok1 (tabs m))

/-- What rides beside the buffers: the core owes nothing. -/
abbrev R (c : Dev nD) : sProp 𝕄 := iprop(∃ W, owes (c : Thread nD τ) (0 : CellTallies nD τ sig Unit) W)

theorem cut (p : Fin 2) : Pipeline.LevelCut (pcfgs (F := F)) (tabs m) () L lv p (fun _ => (0 : CellTallies nD τ sig Unit)) (fun _ => 0) where
  hι _ _ _ := by
    unfold L
    rw [if_pos rfl]; exact Finset.mem_singleton_self _
  hιb _ _ _ := Nat.le_refl _
  hD _ _ _ h := absurd h (Nat.lt_irrefl _)

/-- The scoped rest of the first pipeline is its accumulator and what is left. -/
theorem rest0 (c : Dev nD) : (Pipeline.scopedRest (Ix := Unit) (Name := ℕ) (U := UU) (Lvl := ℕ) (Val := Elt F) spec0 c : sProp 𝕄)
    = iprop((∃ f : Buf (Elt F) ((c : Thread nD τ).loc cc0_scratch0), ((c : Thread nD τ).loc cc0_scratch0) ↦{fullShare} f)
      ∗ Pipeline.scopedRestBut (Ix := Unit) (Name := ℕ) (U := UU) (Lvl := ℕ) (Val := Elt F) spec0 c [cc0_scratch0]) :=
  Pipeline.scopedRest_split_of_list spec0 c [cc0_scratch0] (by decide) (by decide)

set_option backward.isDefEq.respectTransparency.types false in
theorem hin0 (c : Dev nD) : iprop(iprop(Pipeline.scopedRest (Ix := Unit) (Name := ℕ) (U := UU) (Lvl := ℕ) (Val := Elt F) spec0 c ∗ (emp : sProp 𝕄))
      ∗ Pipeline.prefHeld (Ix := Unit) (Name := ℕ) (U := UU) (Lvl := ℕ) pre0 c (fun _ => fullShare) (tabs m 0).1)
    ⊢ (dat0 (tabs m) h0 (V1 m c) c).Φ 0 := by
  rw [show (dat0 (tabs m) h0 (V1 m c) c).Φ 0 = Phi0 (tabs m) h0 (V1 m c) c 0 from rfl]
  unfold Phi0
  rw [rest0]
  iintro ⟨⟨⟨⟨%f, Hs⟩, Hr⟩, -⟩, Ht⟩
  isplitl [Hs]
  · iexists f
    rw [owns_whole]
    iexact Hs
  isplitl [Hr]; · iexact Hr
  iexact Ht

set_option backward.isDefEq.respectTransparency.types false in
theorem hout0 (c : Dev nD) : (dat0 (tabs m) h0 (V1 m c) c).Φ (Fin.last (cfg0 (F := F) (tabs m 0)).N)
    ⊢ iprop(iprop(Pipeline.scopedRest (Ix := Unit) (Name := ℕ) (U := UU) (Lvl := ℕ) (Val := Elt F) spec0 c ∗ (emp : sProp 𝕄))
      ∗ Pipeline.prefHeld (Ix := Unit) (Name := ℕ) (U := UU) (Lvl := ℕ) pre0 c (fun _ => fullShare) (tabs m 0).1) := by
  rw [show (dat0 (tabs m) h0 (V1 m c) c).Φ (Fin.last (cfg0 (F := F) (tabs m 0)).N) = Phi0 (tabs m) h0 (V1 m c) c (cfg0 (F := F) (tabs m 0)).N from rfl]
  unfold Phi0
  rw [rest0]
  simp only [owns_whole]
  iintro ⟨⟨%A, Hs⟩, Hr, Ht⟩
  isplitl [Hs Hr]
  · isplitl [Hs Hr]
    · isplitl [Hs]
      · iexists _; iexact Hs
      iexact Hr
    iempintro
  iexact Ht

set_option backward.isDefEq.respectTransparency.types false in
theorem hin1 (c : Dev nD) : iprop(iprop(Pipeline.scopedRest (Ix := Unit) (Name := ℕ) (U := UU) (Lvl := ℕ) (Val := Elt F) spec1 c ∗ (emp : sProp 𝕄))
      ∗ Pipeline.prefHeld (Ix := Unit) (Name := ℕ) (U := UU) (Lvl := ℕ) pre1 c (fun _ => fullShare) (tabs m 1).1)
    ⊢ Phi1 (tabs m) c := by
  unfold Phi1
  iintro ⟨⟨Hr, -⟩, Ht⟩
  isplitl [Hr]; · iexact Hr
  iexact Ht

set_option backward.isDefEq.respectTransparency.types false in
theorem hout1 (c : Dev nD) : Phi1 (tabs m) c
    ⊢ iprop(iprop(Pipeline.scopedRest (Ix := Unit) (Name := ℕ) (U := UU) (Lvl := ℕ) (Val := Elt F) spec1 c ∗ (emp : sProp 𝕄))
      ∗ Pipeline.prefHeld (Ix := Unit) (Name := ℕ) (U := UU) (Lvl := ℕ) pre1 c (fun _ => fullShare) (tabs m 1).1) := by
  unfold Phi1
  iintro ⟨Hr, Ht⟩
  isplitl [Hr]
  · isplitl [Hr]; · iexact Hr
    iempintro
  iexact Ht

set_option backward.isDefEq.respectTransparency.types false in
/-- The first pipeline's region. -/
def reg0 : RegionSeg (pcfgs (F := F)) (tabs m) (pdats m h0 h1) () defs₀ Variants.none L lv 0 :=
  RegionSeg.ofHeldInT (pcfgs (F := F)) (tabs m) (pdats m h0 h1) () defs₀ Variants.none L lv 0 (fun _ => 0) (Pipeline.ucRefs τ sig)
    (fun _ => iprop(emp)) (fun _ => iprop(emp)) launch0 (fun c => (body_obligation0 (tabs m) h0 (V1 m c) c).loose)
    (fun _ _ => rfl) (fun _ => rfl) (fun c => (pdats m h0 h1 0 c).share_full fun _ => rfl) (hin0 m h0) (hout0 m h0) (fun _ => 0) (cut m 0)
    (fun _ => iprop(emp)) (fun c => V1 m c) (fun _ _ => rfl) (tabs0 m)

set_option backward.isDefEq.respectTransparency.types false in
/-- The second pipeline's region. -/
def reg1 : RegionSeg (pcfgs (F := F)) (tabs m) (pdats m h0 h1) () defs₀ Variants.none L lv 1 :=
  RegionSeg.ofHeldInT (pcfgs (F := F)) (tabs m) (pdats m h0 h1) () defs₀ Variants.none L lv 1 (fun _ => 0) (Pipeline.ucRefs τ sig)
    (fun _ => iprop(emp)) (fun _ => iprop(emp)) launch1 (fun c => (body_obligation1 (tabs m) h1 (U3 m h0 c) c).loose)
    (fun _ _ => rfl) (fun _ => rfl) (fun c => (pdats m h0 h1 1 c).share_full fun _ => rfl) (hin1 m) (hout1 m) (fun _ => 0) (cut m 1)
    (fun _ => iprop(emp)) (fun c => U3 m h0 c) (fun _ _ => rfl) (tabs1 m h0)

/-- The second host stretch. -/
def hseg2 : HostSeg (Ix := Unit) (Name := ℕ) (U := UU) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m h0) R

/-- The first host stretch. -/
def hseg0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

/-- @main as its four items. -/
abbrev items : List (Seg (pcfgs (F := F)) (tabs m) (pdats m h0 h1) () defs₀ Variants.none L lv) :=
  [.host (hseg0 m), .region (reg0 m h0 h1), .host (hseg2 m h0), .region (reg1 m h0 h1)]

/-- The ghost state the run starts from. -/
def u₀ : UU := (initOf (Pipeline.cells (Pipeline.pin (pcfgs (F := F)) (tabs m)) (cellOf_inj (tabs m))) (Pipeline.launchToks (Pipeline.pin (pcfgs (F := F)) (tabs m)) (cellOf_inj (tabs m))), 1)

theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)
theorem tbl0_sub : Pipeline.tblRefs (τ := τ) pre0 ⊆ Pipeline.ucRefs τ sig := Pipeline.tblRefs_sub_ucRefs pre0 (by decide)
theorem tbl1_sub : Pipeline.tblRefs (τ := τ) pre1 ⊆ Pipeline.ucRefs τ sig := Pipeline.tblRefs_sub_ucRefs pre1 (by decide)

/-- Two valuations that agree on the unscoped buffers hold them the same. -/
theorem held_eq (c : Dev nD) {V V' : Valuation τ sig (Elt F)} (h : V = V') :
    (StableHlo.held (c : Thread nD τ) (Pipeline.ucRefs τ sig) V : sProp 𝕄) ⊢ StableHlo.held (c : Thread nD τ) (Pipeline.ucRefs τ sig) V' := by
  rw [h]

set_option backward.isDefEq.respectTransparency.types false in
theorem pre0_of (c : Dev nD) : iprop(StableHlo.held (c : Thread nD τ) (Pipeline.ucRefs τ sig) (V1 m c) ∗ R (F := F) c) ⊢ (reg0 m h0 h1).pre c := by
  unfold reg0
  refine BIBase.Entails.trans ?_ (RegionSeg.ofHeldInT_pre (pcs := pcfgs (F := F)) (p := 0) (D := fun _ => 0) arr0_sub tbl0_sub c)
  iintro ⟨Hh, HO⟩
  isplitl [Hh]; · iexact Hh
  isplitl [HO]; · iexact HO
  isplitl [] <;> iempintro

set_option backward.isDefEq.respectTransparency.types false in
theorem post0_of (c : Dev nD) : (reg0 m h0 h1).post c ⊢ iprop(StableHlo.held (c : Thread nD τ) (Pipeline.ucRefs τ sig) (U2 m h0 c) ∗ R (F := F) c) := by
  unfold reg0
  refine BIBase.Entails.trans (RegionSeg.ofHeldInT_post (pcs := pcfgs (F := F)) (p := 0) (D := fun _ => 0) arr0_sub tbl0_sub c) ?_
  iintro ⟨Hh, HO, -, -⟩
  isplitl [Hh]; · iexact Hh
  iexact HO

set_option backward.isDefEq.respectTransparency.types false in
theorem pre1_of (c : Dev nD) : iprop(StableHlo.held (c : Thread nD τ) (Pipeline.ucRefs τ sig) (U3 m h0 c) ∗ R (F := F) c) ⊢ (reg1 m h0 h1).pre c := by
  unfold reg1
  refine BIBase.Entails.trans ?_ (RegionSeg.ofHeldInT_pre (pcs := pcfgs (F := F)) (p := 1) (D := fun _ => 0) arr1_sub tbl1_sub c)
  iintro ⟨Hh, HO⟩
  isplitl [Hh]; · iexact Hh
  isplitl [HO]; · iexact HO
  isplitl [] <;> iempintro

set_option backward.isDefEq.respectTransparency.types false in
theorem post1_of (c : Dev nD) : (reg1 m h0 h1).post c ⊢ iprop(StableHlo.held (c : Thread nD τ) (Pipeline.ucRefs τ sig) (U4 m h0 h1 c) ∗ R (F := F) c) := by
  unfold reg1
  refine BIBase.Entails.trans (RegionSeg.ofHeldInT_post (pcs := pcfgs (F := F)) (p := 1) (D := fun _ => 0) arr1_sub tbl1_sub c) ?_
  iintro ⟨Hh, HO, -, -⟩
  isplitl [Hh]; · iexact Hh
  iexact HO

theorem mem_uc (r : Ref sig .tc) (h : r.isScoped = false) : Proc.devRef .tc r ∈ Pipeline.ucRefs τ sig :=
  Finset.mem_filter.mpr ⟨StableHlo.devRef_mem_tcRefs r, by simpa using h⟩

set_option backward.isDefEq.respectTransparency.types false in
/-- THE RUN: from a memory whose tables meet the checks, every fair execution ends with the unscoped buffers as the last
    valuation has them and every counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = U4 m h0 h1 c b) ∧ r.2.sem = fun _ => 0) := by
  refine Pipeline.θ_run_regions_kit_dev_sems (pcfgs (F := F)) (tabs m) (pdats m h0 h1) () (cellOf_inj (tabs m)) EP defs₀ Variants.none L lv m ρ main
    (fun _ => items m h0 h1)
    (fun c Q => by
      rewrite [main_chain c, Seg.run_eq_chain,
        show (items m h0 h1).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, Seg.pipes_host, Seg.pipes_region, Seg.pipes_nil]; decide) 0 L_off (fun _ => iprop(emp)) (u₀ m) ?_
    (T₀ := fun c => iprop(StableHlo.held (c : Thread nD τ) (Pipeline.ucRefs τ sig) (V0 m c) ∗ R c))
    (Tₙ := fun c => StableHlo.held (c : Thread nD τ) (Pipeline.ucRefs τ sig) (U4 m h0 h1 c))
    (hch := fun c => ⟨.rfl, pre0_of m h0 h1 c, post0_of m h0 h1 c, pre1_of m h0 h1 c, post1_of m h0 h1 c⟩)
    (hinit := ?_) (QY := fun c s => ∀ b ∈ Pipeline.ucRefs τ sig, s.mem ((c : Thread nD τ).1, b) = U4 m h0 h1 c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U4 m h0 h1 c) s') $$ [Hh HSI]
    · isplitl [Hh] <;> iassumption
    icases Hr with ⟨%h, HSI⟩
    imodintro
    isplitr
    · ipureintro
      exact h
    iexact HSI

/-- The run's result and arguments. -/
theorem run_main (ρ : Dev nD → PrngReg) :
    θ_run defs (onTc (τ := τ) (main (F := F))) ⟨m, fun _ => 0, ρ⟩ (fun r => (∀ c : Dev nD,
      r.2.mem ((c.tc : Thread nD τ).loc main_v0) = (dat1 (tabs m) h1 (U3 m h0 c) c).arrAt 8 (cfg1 (F := F) (tabs m 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs (onTc (τ := τ) (main (F := F))) ⟨m, fun _ => 0, ρ⟩).mono (fun r h => ⟨fun c => ?_, h.2⟩) (run_all m h0 h1 ρ)
  have hb := h.1 c
  refine ⟨(hb _ (mem_uc main_v0 rfl)).trans (U4_arr m h0 h1 c 8), (hb _ (mem_uc main_arg0 rfl)).trans (U4_arg0 m h0 h1 c), ?_⟩
  exact ⟨(hb _ (mem_uc main_arg1 rfl)).trans (U4_arg m h0 h1 c main_arg1 (by decide) (by decide) (by decide) (by decide)),
    (hb _ (mem_uc main_arg2 rfl)).trans (U4_arg m h0 h1 c main_arg2 (by decide) (by decide) (by decide) (by decide)),
    (hb _ (mem_uc main_arg3 rfl)).trans (U4_arg m h0 h1 c main_arg3 (by decide) (by decide) (by decide) (by decide)),
    (hb _ (mem_uc main_arg4 rfl)).trans (U4_arg m h0 h1 c main_arg4 (by decide) (by decide) (by decide) (by decide)),
    (hb _ (mem_uc main_arg5 rfl)).trans (U4_arg m h0 h1 c main_arg5 (by decide) (by decide) (by decide) (by decide)),
    (hb _ (mem_uc main_arg6 rfl)).trans (U4_arg m h0 h1 c main_arg6 (by decide) (by decide) (by decide) (by decide)),
    (hb _ (mem_uc main_arg7 rfl)).trans (U4_arg m h0 h1 c main_arg7 (by decide) (by decide) (by decide) (by decide))⟩

end Run

end Cert.KernelIdeal.Hand
-- ==== Proof.KernelIdeal.Checks.lean ====
/-
  The tables the host operations compute, read at a block, and the bodies' checks from sorted ids.
-/
module

public import proofs.«01_k».proof.Proof.KernelIdeal.Run
public import proofs.«01_k».proof.Proof.Words

@[expose] public section

noncomputable section

namespace Cert.KernelIdeal.Hand

open Cert.KernelIdeal Cert.KernelIdeal.Gen
open Idealize.ShloMosaic Idealize.ShloMosaic.ValueIdx
open Idealize.ShloMosaic.TcCoe
open Idealize.SL.Sem Idealize.ShloMosaic.StableHlo

variable {F : FTy → Type} [FloatOps F]
variable (m : (ℓ : Loc nD τ sig) → Buf (Elt F) ℓ)

/-- The id array at launch. -/
abbrev ids : Own.SB.Idx → BitVec 32 := m (((0 : Dev nD) : Thread nD τ).loc main_arg1)

/-- The base rows the host operations leave. -/
theorem V1_bases : (V1 m 0 (Proc.devRef .tc main_call0_v4) : IVec S125 32)
    = muli (Routing.pyDiv bcast_S_S125 (Host.slice S125 ![0] ![2560] (ids m) slicesBy_S320000_S125_0s2560) (constantI S_ 32 8#32))
        (broadcastInDim S125 ![] bcast_S_S125 (constantI S_ 32 8#32)) := by
  unfold V1 hostOps0
  simp only [TRef.binary, TRef.nullary, TRef.ternary, TRef.unary, TRef.toBuf, TRef.ofBuf, cast_eq]
  after_results_simp <;> rfl

/-- The window counts the host operations leave. -/
theorem V1_nch : (V1 m 0 (Proc.devRef .tc main_call0_v8) : IVec S125 32)
    = addi (Routing.pyDiv bcast_S_S125 (subi (Host.slice S125 ![2559] ![2560] (ids m) slicesBy_S320000_S125_2559s2560)
          (V1 m 0 (Proc.devRef .tc main_call0_v4) : IVec S125 32)) (constantI S_ 32 128#32))
        (broadcastInDim S125 ![] bcast_S_S125 (constantI S_ 32 1#32)) := by
  rw [V1_bases]
  unfold V1 hostOps0
  simp only [TRef.binary, TRef.nullary, TRef.ternary, TRef.unary, TRef.toBuf, TRef.ofBuf, cast_eq]
  after_results_simp <;> rfl

variable (hB : Own.Sorted (ids m))
include hB

theorem bases_at (t : Fin 125) : (V1 m 0 (Proc.devRef .tc main_call0_v4) : IVec S125 32) (ValueIdx.ix1 t) = BitVec.ofNat 32 (Own.base (ids m) t.val) := by
  rw [V1_bases]
  refine Own.bases_at hB bcast_S_S125 _ t ?_
  have ht := t.isLt
  refine Eq.trans (congrArg (ids m) ?_) (hB.at ⟨2560 * t.val, by omega⟩)
  exact funext fun a => Fin.ext (by match a with | ⟨0, _⟩ => exact Nat.zero_add _)

theorem nch_at (t : Fin 125) : (V1 m 0 (Proc.devRef .tc main_call0_v8) : IVec S125 32) (ValueIdx.ix1 t) = BitVec.ofNat 32 (Own.nch (ids m) t.val) := by
  rw [V1_nch]
  refine Own.nchs_at hB bcast_S_S125 _ _ t ?_ (bases_at m hB t)
  have ht := t.isLt
  refine Eq.trans (congrArg (ids m) ?_) (hB.at ⟨2560 * t.val + 2559, by omega⟩)
  exact funext fun a => Fin.ext (by match a with | ⟨0, _⟩ => exact Nat.add_comm _ _)

omit hB in
/-- The word a grid point reads is the table's at that point. -/
theorem word0_eq (i : grid0.Coords) (T : Vec F S125 .i32) : word0 i T = T (ValueIdx.ix1 ⟨(i 0).val, (i 0).isLt⟩) := by
  unfold word0 View.ld
  refine congrArg T (funext fun a => Fin.ext ?_)
  have h : (i 0).val < 125 := (i 0).isLt
  match a with
  | ⟨0, _⟩ =>
    show (BitVec.ofNat 32 (i 0).val).toNat + 1 * 0 = (i 0).val
    rw [BitVec.toNat_ofNat]; omega

omit hB in
theorem word1_eq (i : grid1.Coords) (T : Vec F S125 .i32) : word1 i T = T (ValueIdx.ix1 ⟨(i 0).val, (i 0).isLt⟩) := by
  unfold word1 View.ld
  refine congrArg T (funext fun a => Fin.ext ?_)
  have h : (i 0).val < 125 := (i 0).isLt
  match a with
  | ⟨0, _⟩ =>
    show (BitVec.ofNat 32 (i 0).val).toNat + 1 * 0 = (i 0).val
    rw [BitVec.toNat_ofNat]; omega

theorem wb0 (i : grid0.Coords) : word0 i (tB0 (tabs m)) = BitVec.ofNat 32 (Own.base (ids m) (i 0).val) :=
  (word0_eq i _).trans (bases_at m hB ⟨(i 0).val, (i 0).isLt⟩)
theorem wn0 (i : grid0.Coords) : word0 i (tN0 (tabs m)) = BitVec.ofNat 32 (Own.nch (ids m) (i 0).val) :=
  (word0_eq i _).trans (nch_at m hB ⟨(i 0).val, (i 0).isLt⟩)
theorem wb1 (i : grid1.Coords) : word1 i (tB1 (tabs m)) = BitVec.ofNat 32 (Own.base (ids m) (i 0).val) :=
  (word1_eq i _).trans (bases_at m hB ⟨(i 0).val, (i 0).isLt⟩)
theorem wn1 (i : grid1.Coords) : word1 i (tN1 (tabs m)) = BitVec.ofNat 32 (Own.nch (ids m) (i 0).val) :=
  (word1_eq i _).trans (nch_at m hB ⟨(i 0).val, (i 0).isLt⟩)

omit hB in
theorem trips0 {n : ℕ} (h : n < 2 ^ 30) : (k0_t1_loop (BitVec.ofNat 32 n)).trips = n := (Own.loop0 h).2
omit hB in
theorem trips1 {n : ℕ} (h : n < 2 ^ 30) (hn : 0 < n) : (k1_t1_loop (BitVec.ofNat 32 n)).trips = n - 1 := (Own.loop1 h hn).2

omit hB in
/-- Window `k` of the first kernel starts at row base + 128 k. -/
theorem off2_eq {b n : ℕ} (k : Fin (k0_t1_loop (BitVec.ofNat 32 n)).trips) (h : b + 128 * k.val < 2 ^ 32) :
    k0_off2 (BitVec.ofNat 32 b) (BitVec.ofNat 32 n) k = ![b + 128 * k.val, 0] := by
  have e := Own.row_word (b := b) (j := k.val) h 0#32 k.val (by simp)
  have e2 : k0_off2 (BitVec.ofNat 32 b) (BitVec.ofNat 32 n) k
    = ![(Scalar.addi (BitVec.ofNat 32 b) (Scalar.muli (Scf.iv 0#32 1#32 k.val) 128#32)).toNat, 0] := rfl
  rw [e2, e, BitVec.toNat_ofNat, Nat.mod_eq_of_lt h]

omit hB in
/-- Window `k` of the second kernel's loop starts at row base + 128 (k + 1). -/
theorem off3_eq {b n : ℕ} (k : Fin (k1_t1_loop (BitVec.ofNat 32 n)).trips) (h : b + 128 * (k.val + 1) < 2 ^ 32) :
    k1_off3 (BitVec.ofNat 32 b) (BitVec.ofNat 32 n) k = ![b + 128 * (k.val + 1), 0] := by
  have e := Own.row_word (b := b) (j := k.val + 1) h 1#32 k.val (by
    rw [BitVec.mul_one]; apply BitVec.eq_of_toNat_eq; simp only [BitVec.toNat_add, BitVec.toNat_ofNat]; omega)
  have e2 : k1_off3 (BitVec.ofNat 32 b) (BitVec.ofNat 32 n) k
    = ![(Scalar.addi (BitVec.ofNat 32 b) (Scalar.muli (Scf.iv 1#32 1#32 k.val) 128#32)).toNat, 0] := rfl
  rw [e2, e, BitVec.toNat_ofNat, Nat.mod_eq_of_lt h]

omit hB in
theorem offB_eq {b : ℕ} (h : b < 2 ^ 32) : k1_off2 (BitVec.ofNat 32 b) = ![b, 0] := by
  have e2 : k1_off2 (BitVec.ofNat 32 b) = ![(BitVec.ofNat 32 b).toNat, 0] := rfl
  rw [e2, BitVec.toNat_ofNat, Nat.mod_eq_of_lt h]

omit hB in
/-- A 128-row window at row `r` is inside the 10240 rows. -/
theorem inb_of {off : Fin 2 → ℕ} {r : ℕ} (e : off = ![r, 0]) (h : r + 128 ≤ 10240) : ∀ a, off a + S128x128.size a ≤ S10240x128.size a := by
  subst e
  exact Fin.forall_fin_two.mpr ⟨h, show (0 : ℕ) + 128 ≤ 128 from le_rfl⟩

theorem chk0 (i : grid0.Coords) : k0_chk1 (word0 i (tB0 (tabs m))) (word0 i (tN0 (tabs m))) := by
  rw [wb0 m hB, wn0 m hB]
  have hi : (i 0).val < 125 := (i 0).isLt
  have hn := hB.nch_le hi
  refine ⟨(Own.loop0 (by omega)).1, fun k => ?_, Scf.rem_ok _ _, fun k => (Scf.rem_no_trip _ _ k).elim⟩
  have hk : k.val < Own.nch (ids m) (i 0).val := k.isLt.trans_eq (trips0 (by omega))
  have hw := hB.window hi hk
  exact inb_of (off2_eq k (by omega)) hw

theorem chk1a (i : grid1.Coords) : k1_chk1 (word1 i (tB1 (tabs m))) := by
  rw [wb1 m hB]
  have hi : (i 0).val < 125 := (i 0).isLt
  have hb := hB.base_lt (t := (i 0).val)
  have hw := hB.window hi (j := 0) (by unfold Own.nch; omega)
  exact inb_of (offB_eq (by omega)) (by omega)

theorem chk1b (i : grid1.Coords) : k1_chk2 (word1 i (tB1 (tabs m))) (word1 i (tN1 (tabs m))) := by
  rw [wb1 m hB, wn1 m hB]
  have hi : (i 0).val < 125 := (i 0).isLt
  have hn := hB.nch_le hi
  have h0 : 0 < Own.nch (ids m) (i 0).val := by unfold Own.nch; omega
  refine ⟨(Own.loop1 (by omega) h0).1, fun k => ?_, Scf.rem_ok _ _, fun k => (Scf.rem_no_trip _ _ k).elim⟩
  have hk : k.val < Own.nch (ids m) (i 0).val - 1 := k.isLt.trans_eq (trips1 (by omega) h0)
  have hw := hB.window hi (j := k.val + 1) (by omega)
  exact inb_of (off3_eq k (by omega)) hw

/-- The first kernel's checks hold of sorted ids. -/
theorem ok0 : Ok0 (tabs m) := ⟨chk0 m hB, fun _ => Scf.rem_trips _ _⟩
/-- The second kernel's checks hold of sorted ids. -/
theorem ok1 : Ok1 (tabs m) := ⟨chk1a m hB, chk1b m hB, fun _ => Scf.rem_trips _ _⟩

end Cert.KernelIdeal.Hand

end
-- ==== Proof.Frames.lean ====
/-
  The frames: each program runs to completion, leaves its arguments as they were and its counters at zero.
-/
module

public import proofs.«01_k».proof.Defs
public import proofs.«01_k».proof.Proof.Kernel.Checks
public import proofs.«01_k».proof.Proof.KernelIdeal.Checks
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The precondition makes the ids the kernel is given sorted and in range. -/
theorem sorted_kernel (m : (ℓ : Loc Cert.Kernel.nD Cert.Kernel.τ Cert.Kernel.sig) → Buf (Elt Bits) ℓ)
    (h : Cert.Pre_Kernel m) : Own.Sorted (Cert.Kernel.Hand.ids m) :=
  Own.sorted_of_pre _ _ _ _ _ _ _ _ (h 0)

/-- The precondition makes the ids the idealized kernel is given sorted and in range. -/
theorem sorted_ideal (m : (ℓ : Loc Cert.KernelIdeal.nD Cert.KernelIdeal.τ Cert.KernelIdeal.sig) → Buf (Elt Ideal) ℓ)
    (h : Cert.Pre_KernelIdeal m) : Own.Sorted (Cert.KernelIdeal.Hand.ids m) :=
  Own.sorted_of_pre _ _ _ _ _ _ _ _ (h 0)

/-- The kernel's frame. -/
theorem kernel : Cert.quiescent_Kernel := fun m g h =>
  (θ_run _ _ _).mono (fun _ h => ⟨fun c => (h.1 c).2, h.2⟩)
    (Cert.Kernel.Hand.run_main m (Cert.Kernel.Hand.ok0 m (sorted_kernel m h)) (Cert.Kernel.Hand.ok1 m (sorted_kernel m h)) g)

/-- The idealized kernel's frame. -/
theorem kernelIdeal : Cert.quiescent_KernelIdeal := fun m g h =>
  (θ_run _ _ _).mono (fun _ h => ⟨fun c => (h.1 c).2, h.2⟩)
    (Cert.KernelIdeal.Hand.run_main m (Cert.KernelIdeal.Hand.ok0 m (sorted_ideal m h)) (Cert.KernelIdeal.Hand.ok1 m (sorted_ideal m h)) g)

/-- The reference's frame. -/
theorem reference : Cert.quiescent_ReferenceIdeal := fun m g _ =>
  (θ_run _ _ _).mono (fun r h => ⟨fun c => (h c).2, sem_eq_zero_of_no_sems rfl r.2⟩) (Cert.ReferenceIdeal.Value.run m g)

/-- The reference's frame, from sorted ids. -/
theorem reference_sorted : Cert.quiescent_ReferenceIdeal_pre_sorted_ids := fun m g _ => reference m g trivial

end Cert.Frames

end
-- ==== Proof.Spec.lean ====
/-
  The function both programs compute, over the extended reals: segment sums of the rows, the projected sums, the
  difference with each row's own projection, and its normalisation and activation. Nothing here names a program.
-/
module

public import proofs.«01_k».proof.Proof.Words
public import Idealize.ShloMosaic.Lib.Pointwise
public import Idealize.ShloMosaic.Lib.IdealHost

@[expose] public section

noncomputable section

namespace Cert.Val

open Idealize.ShloMosaic
open scoped BigOperators

/-- The shape of the rows. -/
abbrev SX : Shape := ⟨2, ![320000, 128]⟩
/-- The shape of a weight. -/
abbrev SW : Shape := ⟨2, ![128, 128]⟩
/-- The shape of a row vector. -/
abbrev SV : Shape := ⟨1, ![128]⟩
/-- The shape of the slope. -/
abbrev SA : Shape := ⟨1, ![1]⟩

/-! ## A row's normalisation -/

/-- The mean of a row. -/
def mean (h : Fin 128 → EReal) : EReal := Ideal.div (∑ x, h x) (Ideal.ofBits .f32 0x43000000#32)
/-- A row's deviation from its mean. -/
def dev (h : Fin 128 → EReal) (c : Fin 128) : EReal := h c - mean h
/-- The variance plus the constant that keeps it positive. -/
def den (h : Fin 128 → EReal) : EReal := mean (fun x => dev h x * dev h x) + Ideal.ofBits .f32 0x3727C5AC#32
/-- The activation at slope `al`. -/
def act (al o : EReal) : EReal := if 0 ≤ o then o else al * o
/-- The row normalised, scaled, shifted and activated. -/
def norm (h lw lb : Fin 128 → EReal) (al : EReal) (c : Fin 128) : EReal :=
  act al (Ideal.div (dev h c) (Ideal.sqrt (den h)) * lw c + lb c)

/-- The row width as an extended real. -/
theorem width : Ideal.ofBits .f32 0x43000000#32 = ((128 : ℝ) : EReal) := by
  simp [Ideal.ofBits, Ideal.ieee, -EReal.coe_mul]; norm_num

/-- The constant added to the variance is positive. -/
theorem eps_pos : 0 < Ideal.ofBits .f32 0x3727C5AC#32 := by
  have h : ∃ r : ℝ, 0 < r ∧ Ideal.ofBits .f32 0x3727C5AC#32 = (r : EReal) := by
    refine ⟨_, ?_, by simp [Ideal.ofBits, Ideal.ieee, -EReal.coe_mul]; rfl⟩
    positivity
  obtain ⟨r, hr, e⟩ := h
  rw [e]; exact_mod_cast hr

/-- A square is not negative, at the infinities as well. -/
theorem sq_nonneg (a : EReal) : 0 ≤ a * a := by
  rcases le_total 0 a with h | h
  · exact mul_nonneg h h
  · rw [← neg_mul_neg]
    have : 0 ≤ -a := by rw [← neg_zero]; exact EReal.neg_le_neg_iff.mpr h
    exact mul_nonneg this this

/-- The variance plus the constant is positive, whatever the row. -/
theorem den_pos (h : Fin 128 → EReal) : 0 < den h := by
  unfold den mean
  have h0 : (0 : EReal) ≤ ∑ x, dev h x * dev h x := Finset.sum_nonneg fun x _ => sq_nonneg _
  have h1 : (0 : EReal) ≤ Ideal.div (∑ x, dev h x * dev h x) (Ideal.ofBits .f32 0x43000000#32) := by
    rw [width]
    unfold Ideal.div
    rw [if_neg (by norm_num), ← EReal.coe_inv]
    exact mul_nonneg h0 (by exact_mod_cast (by norm_num : (0 : ℝ) ≤ (128 : ℝ)⁻¹))
  calc (0 : EReal) < Ideal.ofBits .f32 0x3727C5AC#32 := eps_pos
    _ = 0 + Ideal.ofBits .f32 0x3727C5AC#32 := (zero_add _).symm
    _ ≤ _ := add_le_add_left h1 _

/-- At a positive argument, a product with the reciprocal root is the quotient by the root. -/
theorem mul_rsqrt (d v : EReal) (h : 0 < v) : d * Ideal.rsqrt v = Ideal.div d (Ideal.sqrt v) := by
  induction v using EReal.rec with
  | bot => exact absurd h (by simp)
  | top =>
    show d * 0 = Ideal.div d ⊤
    unfold Ideal.div; rw [if_neg (by simp), EReal.inv_top]
  | coe r =>
    have hr : 0 < r := by exact_mod_cast h
    have hs : Real.sqrt r ≠ 0 := (Real.sqrt_pos.mpr hr).ne'
    rw [Ideal.rsqrt_coe, if_neg hr.not_gt, if_neg hr.ne']
    show _ = Ideal.div d (if r < 0 then ⊥ else (Real.sqrt r : EReal))
    rw [if_neg hr.not_gt]
    unfold Ideal.div
    rw [if_neg (by exact_mod_cast hs), EReal.coe_inv]

/-- The normalisation by the reciprocal root is the same. -/
theorem norm_rsqrt (h lw lb : Fin 128 → EReal) (al : EReal) (c : Fin 128) :
    act al (dev h c * Ideal.rsqrt (den h) * lw c + lb c) = norm h lw lb al c := by
  unfold norm; rw [mul_rsqrt _ _ (den_pos h)]

/-! ## The segment sums -/

/-- Row `k` of the array (zero off it). -/
def xn (x : SX.Idx → EReal) (k : ℕ) (c : Fin 128) : EReal := if h : k < 320000 then x (ix2 ⟨k, h⟩ c) else 0

/-- What row `k` adds to segment `s`. -/
def hit (x : SX.Idx → EReal) (B : Own.SB.Idx → BitVec 32) (s : ℕ) (c : Fin 128) (k : ℕ) : EReal :=
  if Own.idn B k = s then xn x k c else 0

/-- Segment `s`'s sum over the first `n` rows. -/
def seg (x : SX.Idx → EReal) (B : Own.SB.Idx → BitVec 32) (n : ℕ) (s : ℕ) (c : Fin 128) : EReal :=
  ∑ k ∈ Finset.range n, hit x B s c k

/-- Segment `s`'s sum over block `t`. -/
def blk (x : SX.Idx → EReal) (B : Own.SB.Idx → BitVec 32) (t : ℕ) (s : ℕ) (c : Fin 128) : EReal :=
  ∑ r : Fin 2560, hit x B s c (2560 * t + r.val)

/-- Over no rows the sum is zero. -/
theorem seg_zero (x : SX.Idx → EReal) (B : Own.SB.Idx → BitVec 32) (s : ℕ) (c : Fin 128) : seg x B 0 s c = 0 := rfl

/-- The first `t + 1` blocks' sum is the first `t` blocks' sum and block `t`'s. -/
theorem seg_succ (x : SX.Idx → EReal) (B : Own.SB.Idx → BitVec 32) (t s : ℕ) (c : Fin 128) :
    seg x B (2560 * (t + 1)) s c = seg x B (2560 * t) s c + blk x B t s c := by
  unfold seg blk
  rw [Nat.mul_add, Nat.mul_one, Finset.sum_range_add, Finset.sum_range (fun r => hit x B s c (2560 * t + r))]

/-- The projected sum of segment `s`. -/
def prj (x : SX.Idx → EReal) (B : Own.SB.Idx → BitVec 32) (wl : SW.Idx → EReal) (s : ℕ) (c : Fin 128) : EReal :=
  ∑ q : Fin 128, seg x B 320000 s q * wl (ix2 c q)

/-- Row `k` before the normalisation. -/
def hid (x : SX.Idx → EReal) (B : Own.SB.Idx → BitVec 32) (wg : SW.Idx → EReal) (bg : SV.Idx → EReal) (wl : SW.Idx → EReal)
    (k : Fin 320000) (c : Fin 128) : EReal :=
  (∑ q : Fin 128, x (ix2 k q) * wg (ix2 c q)) + bg (Idealize.ShloMosaic.ix1 c) - prj x B wl (Own.idn B k.val) c

/-- The result. -/
def res (x : SX.Idx → EReal) (B : Own.SB.Idx → BitVec 32) (wg : SW.Idx → EReal) (bg : SV.Idx → EReal) (wl : SW.Idx → EReal)
    (lw lb : SV.Idx → EReal) (al : SA.Idx → EReal) (k : Fin 320000) (c : Fin 128) : EReal :=
  norm (hid x B wg bg wl k) (fun c => lw (Idealize.ShloMosaic.ix1 c)) (fun c => lb (Idealize.ShloMosaic.ix1 c))
    (al (Idealize.ShloMosaic.ix1 0)) c

end Cert.Val

end
-- ==== Proof.KernelIdeal.Payload.lean ====
/-
  What the bodies' stored values are, read at an index, at exact arithmetic.
-/
module

public import proofs.«01_k».proof.Proof.Gen.KernelIdeal
public import proofs.«01_k».proof.Proof.Gen.KernelIdeal.Skeleton
public import proofs.«01_k».proof.Proof.Spec

@[expose] public section

set_option maxRecDepth 16384

noncomputable section

namespace Cert.KernelIdeal.Pay

open Cert.KernelIdeal Cert.KernelIdeal.Gen
open Idealize.ShloMosaic
open scoped BigOperators

/-- A one-hot entry: the comparison of a window row with a row's id, taken on words. -/
theorem pick {i b l : ℕ} (h : i + b < 2 ^ 32) (hl : l < 2 ^ 32) (u : EReal) :
    Scalar.select (IntOp.cmpi .eq (IntOp.addi (BitVec.ofNat 32 i) (BitVec.ofNat 32 b)) (BitVec.ofNat 32 l)) u 0
      = if l = i + b then u else 0 := by
  have e : IntOp.addi (BitVec.ofNat 32 i) (BitVec.ofNat 32 b) = BitVec.ofNat 32 (i + b) := (BitVec.ofNat_add i b).symm
  rw [e]
  have hq : (BitVec.ofNat 32 (i + b) = BitVec.ofNat 32 l) ↔ l = i + b := by
    constructor
    · intro q
      have := congrArg BitVec.toNat q
      rw [BitVec.toNat_ofNat, BitVec.toNat_ofNat, Nat.mod_eq_of_lt h, Nat.mod_eq_of_lt hl] at this
      exact this.symm
    · rintro rfl; rfl
  by_cases hc : l = i + b
  · subst hc; simp [Scalar.select, IntOp.cmpi]
  · rw [if_neg hc]
    have hc' := fun q => hc (hq.mp q)
    show (if BitVec.ofBool (BitVec.ofNat 32 (i + b) == BitVec.ofNat 32 l) = 1#1 then u else 0) = 0
    rw [beq_eq_false_iff_ne.mpr hc']
    exact if_neg (by decide)

/-- The first kernel's zeros. -/
theorem pay1 (j : S10240x128.Idx) : (k0_pay1 (F := Ideal)) j = 0 := by
  pointwise [k0_pay1]

/-- The rows handed on are the rows. -/
theorem pay3 (x : Vec Ideal S2560x128 .f32) (r : Fin 2560) (c : Fin 128) : (k0_pay3 (F := Ideal) x) (ix2 r c) = x (ix2 r c) := by
  pointwise [k0_pay3]

/-- The projection of a chunk of rows. -/
theorem pay6 (A : Vec Ideal S2560x128 .f32) (w : Vec Ideal S128x128 .f32) (r : Fin 2560) (c : Fin 128) :
    k0_pay6 A w (ix2 r c) = ∑ q : Fin 128, A (ix2 r q) * w (ix2 q c) := by
  pointwise [k0_pay6]

/-- A window of the accumulator gains the rows whose id is its row. -/
theorem pay4 {b0 : ℕ} (v6 : BitVec 32) (b : Vec Ideal S1x1x2560 .i32) (x : Vec Ideal S2560x128 .f32)
    (k : Fin (k0_t1_loop v6).trips) (A : Vec Ideal S128x128 .f32) (i c : Fin 128) (hk : b0 + 128 * k.val + 128 < 2 ^ 32)
    (d : Fin 2560 → ℕ) (hd : ∀ r, d r < 2 ^ 32) (hb : ∀ r, b (ix3 0 0 r) = BitVec.ofNat 32 (d r)) :
    k0_pay4 (F := Ideal) (BitVec.ofNat 32 b0) v6 b x k A (ix2 i c)
      = A (ix2 i c) + ∑ r : Fin 2560, if d r = i.val + (b0 + 128 * k.val) then x (ix2 r c) else 0 := by
  have e := Own.row_word (b := b0) (j := k.val) (by omega) 0#32 k.val (by simp)
  pointwise [k0_pay4, k0_pay2, k0_pay3]
  refine congrArg (_ + ·) (Finset.sum_congr rfl fun r _ => ?_)
  rw [e, hb, pick (by omega) (hd r)]

/-- The second kernel's block before its loop: the product, the bias, less the first window's row of the id. -/
theorem pay5 {b0 : ℕ} (b : Vec Ideal S1x1x2560 .i32) (xb : Vec Ideal S2560x128 .bf16)
    (wg : Vec Ideal S128x128 .bf16) (bg : Vec Ideal S1x128 .f32) (X : Vec Ideal S128x128 .f32) (r : Fin 2560) (c : Fin 128)
    (hk : b0 + 128 < 2 ^ 32) (d : Fin 2560 → ℕ) (hd : ∀ r, d r < 2 ^ 32) (hb : ∀ r, b (ix3 0 0 r) = BitVec.ofNat 32 (d r)) :
    k1_pay5 (F := Ideal) (BitVec.ofNat 32 b0) b xb wg bg X (ix2 r c)
      = (∑ q : Fin 128, xb (ix2 r q) * wg (ix2 q c)) + bg (ix2 0 c) - ∑ i : Fin 128, if d r = i.val + b0 then X (ix2 i c) else 0 := by
  pointwise [k1_pay5, k1_pay4]
  refine congrArg (_ - ·) (Finset.sum_congr rfl fun i _ => ?_)
  rw [hb, pick (by omega) (hd r)]

/-- One trip of the subtraction loop: less the window's row of the id. -/
theorem payS {b0 : ℕ} (v3 : BitVec 32) (b : Vec Ideal S1x1x2560 .i32) (k : Fin (k1_t1_loop v3).trips)
    (D : Vec Ideal S2560x128 .f32) (X : Vec Ideal S128x128 .f32) (r : Fin 2560) (c : Fin 128) (hk : b0 + 128 * (k.val + 1) + 128 < 2 ^ 32)
    (d : Fin 2560 → ℕ) (hd : ∀ r, d r < 2 ^ 32) (hb : ∀ r, b (ix3 0 0 r) = BitVec.ofNat 32 (d r)) :
    k1_pay1 (F := Ideal) (BitVec.ofNat 32 b0) v3 (k1_pay4 (F := Ideal) b) (iota .tc S128x2560 32 [0] iota_S128x2560_d0_w32) 1#32 1#32 k D X (ix2 r c)
      = D (ix2 r c) - ∑ i : Fin 128, if d r = i.val + (b0 + 128 * (k.val + 1)) then X (ix2 i c) else 0 := by
  have e := Own.row_word (b := b0) (j := k.val + 1) (by omega) 1#32 k.val (by
    rw [BitVec.mul_one]; apply BitVec.eq_of_toNat_eq; simp only [BitVec.toNat_add, BitVec.toNat_ofNat]; omega)
  pointwise [k1_pay1, k1_pay4]
  refine congrArg (_ - ·) (Finset.sum_congr rfl fun i _ => ?_)
  rw [e, hb, pick (by omega) (hd r)]

/-- The normalisation of a row of the block. -/
theorem payN (D : Vec Ideal S2560x128 .f32) (lw lb : Vec Ideal S1x128 .f32) (al : Vec Ideal S1x1 .f32) (r : Fin 2560) (c : Fin 128) :
    k1_pay3 (F := Ideal) D lw lb al (ix2 r c)
      = Val.norm (fun q => D (ix2 r q)) (fun q => lw (ix2 0 q)) (fun q => lb (ix2 0 q)) (al (ix2 0 0)) c := by
  rw [← Val.norm_rsqrt]
  unfold Val.act Val.den Val.dev Val.mean
  pointwise [k1_pay3]

end Cert.KernelIdeal.Pay

end
-- ==== Proof.KernelIdeal.Sums.lean ====
/-
  The states of the two bodies at exact arithmetic, read at an index: the accumulator after a scatter loop is a sum over
  the rows, the projected result a product, the second kernel's block a difference.
-/
module

public import proofs.«01_k».proof.Proof.KernelIdeal.Checks
public import proofs.«01_k».proof.Proof.KernelIdeal.Payload

@[expose] public section

noncomputable section

namespace Cert.KernelIdeal.Hand

open Cert.KernelIdeal Cert.KernelIdeal.Gen
open Idealize.ShloMosaic
open scoped BigOperators

/-! ## The scatter loop -/

/-- What the rows of a block add to row `s` of a 10240-row array. -/
def adds (d : Fin 2560 → ℕ) (x : Vec Ideal S2560x128 .f32) (s : ℕ) (c : Fin 128) : EReal :=
  ∑ r : Fin 2560, if d r = s then x (ix2 r c) else 0

/-- The accumulator after `k` trips: the rows of the first `k` windows have gained what the block adds to them. -/
theorem scat_at {b0 n : ℕ} {v4 v6 : BitVec 32} (e4 : v4 = BitVec.ofNat 32 b0) (e6 : v6 = BitVec.ofNat 32 n) (hn : n < 2 ^ 30)
    (hlim : ∀ j < n, b0 + 128 * j + 128 ≤ 10240) (hw : k0_chk1 v4 v6) (b : Vec Ideal S1x1x2560 .i32) (x : Vec Ideal S2560x128 .f32)
    (d : Fin 2560 → ℕ) (hd : ∀ r, d r < 2 ^ 32) (hb : ∀ r, b (ix3 0 0 r) = BitVec.ofNat 32 (d r)) (A : Vec Ideal S10240x128 .f32) :
    ∀ k, k ≤ n → ∀ (s : Fin 10240) (c : Fin 128), scat v4 v6 hw b x A k (ix2 s c)
      = A (ix2 s c) + if b0 ≤ s.val ∧ s.val < b0 + 128 * k then adds d x s.val c else 0 := by
  subst e4 e6
  intro k
  induction k with
  | zero =>
    intro _ s c
    rw [if_neg (by omega), add_zero]; rfl
  | succ k ih =>
    intro hk s c
    have ht : k < (k0_t1_loop (BitVec.ofNat 32 n)).trips := by rw [trips0 hn]; omega
    have hl := hlim k (by omega)
    rw [scat, dif_pos ht]
    unfold scat1
    have ho := off2_eq (b := b0) (n := n) ⟨k, ht⟩ (by show b0 + 128 * k < _; omega)
    by_cases hs : b0 + 128 * k ≤ s.val ∧ s.val < b0 + 128 * k + 128
    · have he : (rect2 (BitVec.ofNat 32 b0) (BitVec.ofNat 32 n) hw ⟨k, ht⟩).emb (ix2 (⟨s.val - (b0 + 128 * k), by omega⟩ : Fin 128) c) = ix2 s c := by
        refine funext fun a => Fin.ext ?_
        match a with
        | ⟨0, _⟩ =>
          show k0_off2 (BitVec.ofNat 32 b0) (BitVec.ofNat 32 n) ⟨k, ht⟩ 0 + 1 * (s.val - (b0 + 128 * k)) = s.val
          rw [ho]; show b0 + 128 * k + 1 * (s.val - (b0 + 128 * k)) = s.val; omega
        | ⟨1, _⟩ =>
          show k0_off2 (BitVec.ofNat 32 b0) (BitVec.ofNat 32 n) ⟨k, ht⟩ 1 + 1 * c.val = c.val
          rw [ho]; show 0 + 1 * c.val = c.val; omega
      rw [← he]
      refine (Rect.overlay_emb _ _ _ _).trans ?_
      refine (Pay.pay4 (b0 := b0) _ b x ⟨k, ht⟩ _ _ c (by show b0 + 128 * k + 128 < _; omega) d hd hb).trans ?_
      have hv : View.ld (Val := Elt Ideal) (e' := .f32) (scat (BitVec.ofNat 32 b0) (BitVec.ofNat 32 n) hw b x A k)
          (rect2 (BitVec.ofNat 32 b0) (BitVec.ofNat 32 n) hw ⟨k, ht⟩) (ix2 (⟨s.val - (b0 + 128 * k), by omega⟩ : Fin 128) c)
          = scat (BitVec.ofNat 32 b0) (BitVec.ofNat 32 n) hw b x A k (ix2 s c) := congrArg _ he
      rw [hv, he, ih (by omega) s c, if_neg (by omega), add_zero, if_pos (by omega)]
      unfold adds
      refine congrArg (_ + ·) (Finset.sum_congr rfl fun r _ => ?_)
      have : s.val - (b0 + 128 * k) + (b0 + 128 * k) = s.val := by omega
      show (if d r = s.val - (b0 + 128 * k) + (b0 + 128 * k) then x (ix2 r c) else 0) = _
      rw [this]
    · have hm : (ix2 s c : S10240x128.Idx) ∉ (rect2 (BitVec.ofNat 32 b0) (BitVec.ofNat 32 n) hw ⟨k, ht⟩).set := by
        intro hm
        have h := (Rect.mem_set_unit.mp hm) 0
        rw [ho] at h
        have h1 : b0 + 128 * k ≤ s.val := h.1
        have h2 : s.val < b0 + 128 * k + 128 := h.2
        exact hs ⟨h1, h2⟩
      rw [Rect.overlay_of_not_mem _ _ _ hm, ih (by omega) s c]
      refine congrArg (_ + ·) ?_
      by_cases hq : b0 ≤ s.val ∧ s.val < b0 + 128 * k
      · rw [if_pos hq, if_pos (by omega)]
      · rw [if_neg hq, if_neg (by omega)]

/-! ## The projection loop -/

/-- The projected result after `k` trips: the first `2560 * k` rows are products. -/
theorem proj_at (i : grid0.Coords) (h : k0_cond2 i = 1#1) (A : Vec Ideal S10240x128 .f32) (w : Vec Ideal S128x128 .f32)
    (O : Vec Ideal S10240x128 .f32) : ∀ k, k ≤ 4 → ∀ (s : Fin 10240) (c : Fin 128), s.val < 2560 * k →
      proj i h A w O k (ix2 s c) = ∑ q : Fin 128, A (ix2 s q) * w (ix2 q c) := by
  intro k
  induction k with
  | zero => intro _ s c hs; omega
  | succ k ih =>
    intro hk s c hs
    have ht : k < k0_t3_loop.trips := by rw [trips4]; omega
    rw [proj, dif_pos ht]
    unfold proj1
    have ho := off4_eq ⟨k, ht⟩
    by_cases hc : 2560 * k ≤ s.val
    · have he : ∀ q : Fin 128, (rect4 i h ⟨k, ht⟩).emb (ix2 (⟨s.val - 2560 * k, by omega⟩ : Fin 2560) q) = ix2 s q := by
        intro q
        refine funext fun a => Fin.ext ?_
        match a with
        | ⟨0, _⟩ =>
          show k0_off4 ⟨k, ht⟩ 0 + 1 * (s.val - 2560 * k) = s.val
          rw [ho]; show 2560 * k + 1 * (s.val - 2560 * k) = s.val; omega
        | ⟨1, _⟩ =>
          show k0_off4 ⟨k, ht⟩ 1 + 1 * q.val = q.val
          rw [ho]; show 0 + 1 * q.val = q.val; omega
      rw [← he c]
      refine (Rect.overlay_emb _ _ _ _).trans ?_
      refine (Pay.pay6 _ w _ c).trans (Finset.sum_congr rfl fun q _ => ?_)
      exact congrArg (fun j => A j * w (ix2 q c)) (he q)
    · have hm : (ix2 s c : S10240x128.Idx) ∉ (rect4 i h ⟨k, ht⟩).set := by
        intro hm
        have hh := (Rect.mem_set_unit.mp hm) 0
        rw [ho] at hh
        have h1 : 2560 * k ≤ s.val := hh.1
        exact hc h1
      rw [Rect.overlay_of_not_mem _ _ _ hm]
      exact ih (by omega) s c (by omega)

/-! ## The subtraction loop -/

/-- Row `s` of a 10240-row array (zero off it). -/
def rown (xm : Vec Ideal S10240x128 .f32) (s : ℕ) (c : Fin 128) : EReal := if h : s < 10240 then xm (ix2 ⟨s, h⟩ c) else 0

/-- A one-hot sum over a window of rows. -/
theorem onehot {l w : ℕ} (f : Fin 128 → EReal) (g : EReal) (h : ∀ i : Fin 128, l = i.val + w → f i = g) :
    (∑ i : Fin 128, if l = i.val + w then f i else 0) = if w ≤ l ∧ l < w + 128 then g else 0 := by
  by_cases hq : w ≤ l ∧ l < w + 128
  · rw [if_pos hq, Finset.sum_eq_single (⟨l - w, by omega⟩ : Fin 128)]
    · have e : l = (⟨l - w, by omega⟩ : Fin 128).val + w := by show l = l - w + w; omega
      rw [if_pos e, h _ e]
    · intro i _ hi
      refine if_neg fun e => hi (Fin.ext ?_)
      show i.val = l - w; omega
    · intro hh; exact absurd (Finset.mem_univ _) hh
  · rw [if_neg hq]
    refine Finset.sum_eq_zero fun i _ => if_neg fun e => hq ?_
    have := i.isLt; omega

/-- A 128-row window of a 10240-row array at row `w`, read at an index. -/
theorem win_at {off : Fin 2 → ℕ} {w : ℕ} (e : off = ![w, 0]) (hi) (xm : Vec Ideal S10240x128 .f32) (i c : Fin 128) {l : ℕ} (hl : l = i.val + w) :
    View.ld (Val := Elt Ideal) (e' := .f32) xm (Rect.unit (s := S10240x128) off S128x128.size hi) (ix2 i c) = rown xm l c := by
  subst e
  have h0 : w + 128 ≤ 10240 := hi 0
  have hi' := i.isLt
  unfold rown
  rw [dif_pos (by omega)]
  refine congrArg xm (funext fun a => Fin.ext ?_)
  match a with
  | ⟨0, _⟩ => show w + 1 * i.val = l; omega
  | ⟨1, _⟩ => show 0 + 1 * c.val = c.val; omega

/-- Of two exclusive cases at most one subtracts, so both subtractions are one, in either case. -/
theorem sub_twice (a g : EReal) {P Q R : Prop} [Decidable P] [Decidable Q] [Decidable R] (hx : ¬ (P ∧ Q)) (hr : R ↔ P ∨ Q) :
    a - (if P then g else 0) - (if Q then g else 0) = a - if R then g else 0 := by
  by_cases hp : P
  · have hq : ¬ Q := fun hq => hx ⟨hp, hq⟩
    rw [if_pos hp, if_neg hq, if_pos (hr.mpr (.inl hp)), sub_zero]
  · by_cases hq : Q
    · rw [if_neg hp, if_pos hq, if_pos (hr.mpr (.inr hq)), sub_zero]
    · rw [if_neg hp, if_neg hq, if_neg (fun h => (hr.mp h).elim hp hq), sub_zero, sub_zero]

/-- The block after `k` trips: a row whose id lies in the first `k` of the loop's windows has lost its id's row. -/
theorem sub1_at {b0 n : ℕ} {v1 v3 : BitVec 32} (e1 : v1 = BitVec.ofNat 32 b0) (e3 : v3 = BitVec.ofNat 32 n) (hn : n < 2 ^ 30) (hp : 0 < n)
    (hlim : ∀ j < n, b0 + 128 * j + 128 ≤ 10240) (hw : k1_chk2 v1 v3) (b : Vec Ideal S1x1x2560 .i32) (xm : Vec Ideal S10240x128 .f32)
    (d : Fin 2560 → ℕ) (hd : ∀ r, d r < 2 ^ 32) (hb : ∀ r, b (ix3 0 0 r) = BitVec.ofNat 32 (d r)) (D : Vec Ideal S2560x128 .f32) :
    ∀ k, k + 1 ≤ n → ∀ (r : Fin 2560) (c : Fin 128), sub1 v1 v3 hw b xm D k (ix2 r c)
      = D (ix2 r c) - if b0 + 128 ≤ d r ∧ d r < b0 + 128 * (k + 1) then rown xm (d r) c else 0 := by
  subst e1 e3
  intro k
  induction k with
  | zero =>
    intro _ r c
    rw [if_neg (by omega), sub_zero]; rfl
  | succ k ih =>
    intro hk r c
    have ht : k < (k1_t1_loop (BitVec.ofNat 32 n)).trips := by rw [trips1 hn hp]; omega
    have hl := hlim (k + 1) (by omega)
    rw [sub1, dif_pos ht]
    refine (Pay.payS (b0 := b0) _ b ⟨k, ht⟩ _ _ r c (by show b0 + 128 * (k + 1) + 128 < _; omega) d hd hb).trans ?_
    exact (congrArg₂ (fun a b : EReal => a - b) (ih (by omega) r c)
      (onehot (w := b0 + 128 * (k + 1)) _ (rown xm (d r) c)
        (fun i hi => win_at (off3_eq (b := b0) (n := n) ⟨k, ht⟩ (by show b0 + 128 * (k + 1) < _; omega)) _ xm i c hi))).trans
      (sub_twice _ _ (by omega) (by omega))

/-- A point's result: the row's product and bias, less its id's row, normalised. -/
theorem out1_at {b0 n : ℕ} {v1 v3 : BitVec 32} (e1 : v1 = BitVec.ofNat 32 b0) (e3 : v3 = BitVec.ofNat 32 n) (hn : n < 2 ^ 30) (hp : 0 < n)
    (hlim : ∀ j < n, b0 + 128 * j + 128 ≤ 10240) (h1 : k1_chk1 v1) (hw : k1_chk2 v1 v3) (xb : Vec Ideal S2560x128 .bf16)
    (b : Vec Ideal S1x1x2560 .i32) (xm : Vec Ideal S10240x128 .f32) (wg : Vec Ideal S128x128 .bf16) (bg lw lb : Vec Ideal S1x128 .f32)
    (al : Vec Ideal S1x1 .f32) (d : Fin 2560 → ℕ) (hd : ∀ r, d r < 2 ^ 32) (hb : ∀ r, b (ix3 0 0 r) = BitVec.ofNat 32 (d r))
    (hin : ∀ r, b0 ≤ d r ∧ d r < b0 + 128 * n) (r : Fin 2560) (c : Fin 128) :
    out1 v1 v3 h1 hw xb b xm wg bg lw lb al (ix2 r c)
      = Val.norm (fun q => (∑ p : Fin 128, xb (ix2 r p) * wg (ix2 p q)) + bg (ix2 0 q) - rown xm (d r) q)
          (fun q => lw (ix2 0 q)) (fun q => lb (ix2 0 q)) (al (ix2 0 0)) c := by
  unfold out1
  rw [Pay.payN]
  refine congrArg (fun h => Val.norm h _ _ _ c) (funext fun q => ?_)
  have ht : (k1_t1_loop v3).trips = n - 1 := by rw [e3, trips1 hn hp]
  have hl := hlim 0 hp
  have hr := hin r
  rw [ht, sub1_at e1 e3 hn hp hlim hw b xm d hd hb _ (n - 1) (by omega) r q]
  subst e1
  rw [Pay.pay5 (b0 := b0) b xb wg bg _ r q (by omega) d hd hb,
    onehot _ (rown xm (d r) q) (fun i hi => win_at (offB_eq (b := b0) (by omega)) _ xm i q hi),
    sub_twice (R := True) _ _ (by omega) (by constructor <;> intro <;> first | trivial | omega), if_pos trivial]

end Cert.KernelIdeal.Hand

end
-- ==== Proof.KernelIdeal.Blocks.lean ====
/-
  What each window's block is of the array it is over, read at an index.
-/
module

public import proofs.«01_k».proof.Proof.KernelIdeal.Sums

@[expose] public section

set_option maxRecDepth 16384

noncomputable section

namespace Cert.KernelIdeal.Hand

open Cert.KernelIdeal Cert.KernelIdeal.Gen
open Idealize.ShloMosaic
open Idealize.ShloMosaic.TcCoe

/-! ## The index maps -/

/-- The first kernel's block of rows at a point. -/
theorem map0_0 (i : grid0.Coords) : cc0_transform_0 i = ![(i 0).val, 0] := by
  have h : (i 0).val < 125 := (i 0).isLt
  unfold cc0_transform_0
  generalize (i 0).val = n at h
  revert n; decide
/-- The first kernel's block of ids at a point. -/
theorem map0_1 (i : grid0.Coords) : cc0_transform_1 i = ![(i 0).val, 0, 0] := by
  have h : (i 0).val < 125 := (i 0).isLt
  unfold cc0_transform_1
  generalize (i 0).val = n at h
  revert n; decide
/-- The first kernel's block of copied rows at a point. -/
theorem map0_4 (i : grid0.Coords) : cc0_transform_4 i = ![(i 0).val, 0] := by
  have h : (i 0).val < 125 := (i 0).isLt
  unfold cc0_transform_4
  generalize (i 0).val = n at h
  revert n; decide
/-- The second kernel's block of rows at a point. -/
theorem map1_0 (i : grid1.Coords) : cc1_transform_0 i = ![(i 0).val, 0] := by
  have h : (i 0).val < 125 := (i 0).isLt
  unfold cc1_transform_0
  generalize (i 0).val = n at h
  revert n; decide
/-- The second kernel's block of ids at a point. -/
theorem map1_1 (i : grid1.Coords) : cc1_transform_1 i = ![(i 0).val, 0, 0] := by
  have h : (i 0).val < 125 := (i 0).isLt
  unfold cc1_transform_1
  generalize (i 0).val = n at h
  revert n; decide
/-- The second kernel's block of the result at a point. -/
theorem map1_8 (i : grid1.Coords) : cc1_transform_8 i = ![(i 0).val, 0] := by
  have h : (i 0).val < 125 := (i 0).isLt
  unfold cc1_transform_8
  generalize (i 0).val = n at h
  revert n; decide

/-- Point `t` of the second kernel's grid has coordinate `t`. -/
theorem coords1_val (t : Fin grid1.N) : (grid1.coords t 0).val = t.val := by
  have h := Pipeline.Grid.coords_val (G := grid1) t 0 (S := 1) (B := 125) (by decide) (by decide)
  have hN : t.val < 125 := t.isLt.trans_eq N_1
  rw [h]; omega

/-! ## The blocks -/

section Blocks

variable {F : FTy → Type} [FloatOps F] (a : Tabs (F := F)) (W : Valuation τ sig (Elt F))

/-- The rows of a block are the rows of the array at its place. -/
theorem xAt_at (t : Fin (cfg0 (F := F) (a 0)).N) (r : Fin 2560) (c : Fin 128) (k : Fin 320000) (hk : k.val = 2560 * t.val + r.val) :
    xAt a W t (ix2 r c) = (W (Proc.devRef .tc main_arg0) : Vec F S320000x128 .f32) (ix2 k c) := by
  unfold xAt
  refine congrArg (W (Proc.devRef .tc main_arg0) : Vec F S320000x128 .f32) (funext fun d => Fin.ext ?_)
  match d with
  | ⟨0, _⟩ =>
    show cc0_transform_0 (grid0.coords t) 0 * 2560 + 1 * r.val = k.val
    rw [map0_0, coords0_val]; show t.val * 2560 + 1 * r.val = k.val; omega
  | ⟨1, _⟩ =>
    show cc0_transform_0 (grid0.coords t) 1 * 128 + 1 * c.val = c.val
    rw [map0_0]; show 0 * 128 + 1 * c.val = c.val; omega

/-- The ids of a block. -/
theorem bAt_at (t : Fin (cfg0 (F := F) (a 0)).N) (r : Fin 2560) (k : Fin 125) (hk : k.val = t.val) :
    bAt a W t (ix3 0 0 r) = (W (Proc.devRef .tc main_call0_v9) : Vec F S125x1x2560 .i32) (ix3 k 0 r) := by
  unfold bAt
  refine congrArg (W (Proc.devRef .tc main_call0_v9) : Vec F S125x1x2560 .i32) (funext fun d => Fin.ext ?_)
  match d with
  | ⟨0, _⟩ =>
    show cc0_transform_1 (grid0.coords t) 0 * 1 + 1 * 0 = k.val
    rw [map0_1, coords0_val]; show t.val * 1 + 1 * 0 = k.val; omega
  | ⟨1, _⟩ =>
    show cc0_transform_1 (grid0.coords t) 1 * 1 + 1 * 0 = 0
    rw [map0_1]; rfl
  | ⟨2, _⟩ =>
    show cc0_transform_1 (grid0.coords t) 2 * 2560 + 1 * r.val = r.val
    rw [map0_1]; show 0 * 2560 + 1 * r.val = r.val; omega

/-- The weights' block is the weights. -/
theorem wAt_at (t : Fin (cfg0 (F := F) (a 0)).N) (r c : Fin 128) :
    wAt a W t (ix2 r c) = (W (Proc.devRef .tc main_call0_v10) : Vec F S128x128 .f32) (ix2 r c) := by
  unfold wAt
  refine congrArg (W (Proc.devRef .tc main_call0_v10) : Vec F S128x128 .f32) (funext fun d => Fin.ext ?_)
  match d with
  | ⟨0, _⟩ => show 0 * 128 + 1 * r.val = r.val; omega
  | ⟨1, _⟩ => show 0 * 128 + 1 * c.val = c.val; omega

/-- The rows of a block of the second kernel. -/
theorem xbAt1_at (t : Fin (cfg1 (F := F) (a 1)).N) (r : Fin 2560) (c : Fin 128) (k : Fin 320000) (hk : k.val = 2560 * t.val + r.val) :
    xbAt1 a W t (ix2 r c) = (W (Proc.devRef .tc main_call0_v13_1) : Vec F S320000x128 .bf16) (ix2 k c) := by
  unfold xbAt1
  refine congrArg (W (Proc.devRef .tc main_call0_v13_1) : Vec F S320000x128 .bf16) (funext fun d => Fin.ext ?_)
  match d with
  | ⟨0, _⟩ =>
    show cc1_transform_0 (grid1.coords t) 0 * 2560 + 1 * r.val = k.val
    rw [map1_0, coords1_val]; show t.val * 2560 + 1 * r.val = k.val; omega
  | ⟨1, _⟩ =>
    show cc1_transform_0 (grid1.coords t) 1 * 128 + 1 * c.val = c.val
    rw [map1_0]; show 0 * 128 + 1 * c.val = c.val; omega

/-- The ids of a block of the second kernel. -/
theorem b1At1_at (t : Fin (cfg1 (F := F) (a 1)).N) (r : Fin 2560) (k : Fin 125) (hk : k.val = t.val) :
    b1At1 a W t (ix3 0 0 r) = (W (Proc.devRef .tc main_call0_v9) : Vec F S125x1x2560 .i32) (ix3 k 0 r) := by
  unfold b1At1
  refine congrArg (W (Proc.devRef .tc main_call0_v9) : Vec F S125x1x2560 .i32) (funext fun d => Fin.ext ?_)
  match d with
  | ⟨0, _⟩ =>
    show cc1_transform_1 (grid1.coords t) 0 * 1 + 1 * 0 = k.val
    rw [map1_1, coords1_val]; show t.val * 1 + 1 * 0 = k.val; omega
  | ⟨1, _⟩ =>
    show cc1_transform_1 (grid1.coords t) 1 * 1 + 1 * 0 = 0
    rw [map1_1]; rfl
  | ⟨2, _⟩ =>
    show cc1_transform_1 (grid1.coords t) 2 * 2560 + 1 * r.val = r.val
    rw [map1_1]; show 0 * 2560 + 1 * r.val = r.val; omega

/-- The projected sums' block is the projected sums. -/
theorem xmAt1_at (t : Fin (cfg1 (F := F) (a 1)).N) (s : Fin 10240) (c : Fin 128) :
    xmAt1 a W t (ix2 s c) = (W (Proc.devRef .tc main_call0_v13_0) : Vec F S10240x128 .f32) (ix2 s c) := by
  unfold xmAt1
  refine congrArg (W (Proc.devRef .tc main_call0_v13_0) : Vec F S10240x128 .f32) (funext fun d => Fin.ext ?_)
  match d with
  | ⟨0, _⟩ => show 0 * 10240 + 1 * s.val = s.val; omega
  | ⟨1, _⟩ => show 0 * 128 + 1 * c.val = c.val; omega

/-- The second weights' block is the weights. -/
theorem wgAt1_at (t : Fin (cfg1 (F := F) (a 1)).N) (r c : Fin 128) :
    wgAt1 a W t (ix2 r c) = (W (Proc.devRef .tc main_call0_v12) : Vec F S128x128 .bf16) (ix2 r c) := by
  unfold wgAt1
  refine congrArg (W (Proc.devRef .tc main_call0_v12) : Vec F S128x128 .bf16) (funext fun d => Fin.ext ?_)
  match d with
  | ⟨0, _⟩ => show 0 * 128 + 1 * r.val = r.val; omega
  | ⟨1, _⟩ => show 0 * 128 + 1 * c.val = c.val; omega

/-- The bias. -/
theorem bgAt1_at (t : Fin (cfg1 (F := F) (a 1)).N) (c : Fin 128) :
    bgAt1 a W t (ix2 0 c) = (W (Proc.devRef .tc main_call0_v14) : Vec F S1x128 .f32) (ix2 0 c) := by
  unfold bgAt1
  refine congrArg (W (Proc.devRef .tc main_call0_v14) : Vec F S1x128 .f32) (funext fun d => Fin.ext ?_)
  match d with
  | ⟨0, _⟩ => show 0 * 1 + 1 * 0 = 0; omega
  | ⟨1, _⟩ => show 0 * 128 + 1 * c.val = c.val; omega

/-- The scale. -/
theorem lwAt1_at (t : Fin (cfg1 (F := F) (a 1)).N) (c : Fin 128) :
    lwAt1 a W t (ix2 0 c) = (W (Proc.devRef .tc main_call0_v15) : Vec F S1x128 .f32) (ix2 0 c) := by
  unfold lwAt1
  refine congrArg (W (Proc.devRef .tc main_call0_v15) : Vec F S1x128 .f32) (funext fun d => Fin.ext ?_)
  match d with
  | ⟨0, _⟩ => show 0 * 1 + 1 * 0 = 0; omega
  | ⟨1, _⟩ => show 0 * 128 + 1 * c.val = c.val; omega

/-- The shift. -/
theorem lbAt1_at (t : Fin (cfg1 (F := F) (a 1)).N) (c : Fin 128) :
    lbAt1 a W t (ix2 0 c) = (W (Proc.devRef .tc main_call0_v16) : Vec F S1x128 .f32) (ix2 0 c) := by
  unfold lbAt1
  refine congrArg (W (Proc.devRef .tc main_call0_v16) : Vec F S1x128 .f32) (funext fun d => Fin.ext ?_)
  match d with
  | ⟨0, _⟩ => show 0 * 1 + 1 * 0 = 0; omega
  | ⟨1, _⟩ => show 0 * 128 + 1 * c.val = c.val; omega

/-- The slope. -/
theorem alAt1_at (t : Fin (cfg1 (F := F) (a 1)).N) :
    alAt1 a W t (ix2 0 0) = (W (Proc.devRef .tc main_call0_v17) : Vec F S1x1 .f32) (ix2 0 0) := by
  unfold alAt1
  refine congrArg (W (Proc.devRef .tc main_call0_v17) : Vec F S1x1 .f32) (funext fun d => Fin.ext ?_)
  match d with
  | ⟨0, _⟩ => show 0 * 1 + 1 * 0 = 0; omega
  | ⟨1, _⟩ => show 0 * 1 + 1 * 0 = 0; omega

end Blocks

end Cert.KernelIdeal.Hand

end
-- ==== Proof.KernelIdeal.Arrays.lean ====
/-
  The arrays between the kernels at exact arithmetic, and the result array, as functions of the arguments.
-/
module

public import proofs.«01_k».proof.Proof.KernelIdeal.Blocks
public import Idealize.ShloMosaic.Lib.Pipeline.ValueKit
public import Idealize.ShloMosaic.Lib.Pipeline.Covers

@[expose] public section

set_option maxRecDepth 16384

noncomputable section

namespace Cert.KernelIdeal.Hand

open Cert.KernelIdeal Cert.KernelIdeal.Gen
open Idealize.ShloMosaic
open Idealize.ShloMosaic.TcCoe
open Idealize.SL.Sem Idealize.ShloMosaic.StableHlo
open Idealize.ShloMosaic.Pipeline (Dat Window)
open scoped BigOperators

variable (m : (ℓ : Loc nD τ sig) → Buf (Elt Ideal) ℓ)

/-! ## The arguments -/

/-- The rows. -/
abbrev ax : Val.SX.Idx → EReal := m (((0 : Dev nD) : Thread nD τ).loc main_arg0)
/-- The first weights. -/
abbrev awg : Val.SW.Idx → EReal := m (((0 : Dev nD) : Thread nD τ).loc main_arg2)
/-- Their bias. -/
abbrev abg : Val.SV.Idx → EReal := m (((0 : Dev nD) : Thread nD τ).loc main_arg3)
/-- The weights of the segment sums. -/
abbrev awl : Val.SW.Idx → EReal := m (((0 : Dev nD) : Thread nD τ).loc main_arg4)
/-- The scale. -/
abbrev alw : Val.SV.Idx → EReal := m (((0 : Dev nD) : Thread nD τ).loc main_arg5)
/-- The shift. -/
abbrev alb : Val.SV.Idx → EReal := m (((0 : Dev nD) : Thread nD τ).loc main_arg6)
/-- The slope. -/
abbrev aal : Val.SA.Idx → EReal := m (((0 : Dev nD) : Thread nD τ).loc main_arg7)

/-! ## What the first host operations leave -/

/-- The first kernel is given the ids, one row of 2560 to a block. -/
theorem V1_v9 : (V1 m 0 (Proc.devRef .tc main_call0_v9) : IVec S125x1x2560 32)
    = shapeCast S125x1x2560 (ids m) shapeCasts_S320000_S125x1x2560 := by
  unfold V1 hostOps0
  simp only [TRef.binary, TRef.nullary, TRef.ternary, TRef.unary, TRef.reshape, TRef.toBuf, TRef.ofBuf, cast_eq]
  after_results_simp <;> rfl

/-- It is given the weights of the segment sums, transposed. -/
theorem V1_v10 : (V1 m 0 (Proc.devRef .tc main_call0_v10) : Vec Ideal S128x128 .f32)
    = transpose S128x128 [1, 0] (awl m) transposes_S128x128_S128x128_1_0 := by
  unfold V1 hostOps0
  simp only [TRef.binary, TRef.nullary, TRef.ternary, TRef.unary, TRef.reshape, TRef.toBuf, TRef.ofBuf, cast_eq]
  after_results_simp <;> rfl

/-- The host transposes the first weights for the second kernel. -/
theorem V1_v12 : (V1 m 0 (Proc.devRef .tc main_call0_v12) : Vec Ideal S128x128 .bf16)
    = truncf (F := Ideal) (φ := .f32) .bf16 (transpose S128x128 [1, 0] (awg m) transposes_S128x128_S128x128_1_0) bitsLt_bf16_f32 := by
  unfold V1 hostOps0
  simp only [TRef.binary, TRef.nullary, TRef.ternary, TRef.unary, TRef.reshape, TRef.toBuf, TRef.ofBuf, cast_eq]
  after_results_simp <;> rfl

/-- The ids in blocks of 2560. -/
theorem v9_at (k : Fin 125) (r : Fin 2560) :
    (V1 m 0 (Proc.devRef .tc main_call0_v9) : IVec S125x1x2560 32) (ix3 k 0 r)
      = ids m (ValueIdx.ix1 ⟨2560 * k.val + r.val, by omega⟩) := by
  rw [V1_v9]
  pointwise
  refine congrArg (ids m) (funext fun a => Fin.ext ?_)
  match a with
  | ⟨0, _⟩ => show k.val * 2560 + r.val = 2560 * k.val + r.val; omega

/-- The weights of the segment sums, transposed. -/
theorem v10_at (q c : Fin 128) : (V1 m 0 (Proc.devRef .tc main_call0_v10) : Vec Ideal S128x128 .f32) (ix2 q c) = awl m (ix2 c q) := by
  rw [V1_v10]
  pointwise

/-- The first weights, transposed. -/
theorem v12_at (q c : Fin 128) : (V1 m 0 (Proc.devRef .tc main_call0_v12) : Vec Ideal S128x128 .bf16) (ix2 q c) = awg m (ix2 c q) := by
  rw [V1_v12]
  pointwise

/-! ## The first kernel's blocks -/

variable (hB : Own.Sorted (ids m))

/-- The accumulator is cleared at the first grid point alone. -/
theorem cond1_iff (i : grid0.Coords) : cond1 i = 1#1 ↔ (i 0).val = 0 := by
  have h : (i 0).val < 125 := (i 0).isLt
  unfold cond1
  generalize (i 0).val = n at h
  revert n; decide

/-- An id is a 32-bit word. -/
theorem idn_lt (k : ℕ) : Own.idn (ids m) k < 2 ^ 32 := by
  unfold Own.idn
  split
  · exact BitVec.isLt _
  · omega

include hB

/-- A block's ids, as numbers. -/
theorem ids_at (k : Fin 125) (r : Fin 2560) :
    (V1 m 0 (Proc.devRef .tc main_call0_v9) : IVec S125x1x2560 32) (ix3 k 0 r) = BitVec.ofNat 32 (Own.idn (ids m) (2560 * k.val + r.val)) :=
  (v9_at m k r).trans (hB.at ⟨2560 * k.val + r.val, by omega⟩)

omit hB in
/-- The rows a block holds. -/
theorem rows_at (t : Fin (cfg0 (F := Ideal) (tabs m 0)).N) (r : Fin 2560) (c : Fin 128) :
    xAt (tabs m) (V1 m 0) t (ix2 r c) = Val.xn (ax m) (2560 * t.val + r.val) c := by
  have ht : t.val < 125 := t.isLt.trans_eq N_0
  have hk : 2560 * t.val + r.val < 320000 := by omega
  rw [xAt_at (tabs m) (V1 m 0) t r c ⟨_, hk⟩ rfl]
  unfold Val.xn
  rw [dif_pos hk]
  exact congrFun (V1_of m 0 main_arg0 (by decide)) _

/-- The accumulator after the first `n` blocks holds the segment sums over their rows. -/
theorem accAt_at (n : ℕ) (hn : n < 125) (s : Fin 10240) (c : Fin 128) :
    accAt (tabs m) (ok0 m hB) (V1 m 0) junkA (n + 1) (ix2 s c) = Val.seg (ax m) (ids m) (2560 * (n + 1)) s.val c := by
  have hN : n < (cfg0 (F := Ideal) (tabs m 0)).N := hn.trans_eq N_0.symm
  have hc : (grid0.coords ⟨n, hN⟩ 0).val = n := coords0_val _
  have hnn := hB.nch_le hn
  have hstart : start (grid0.coords ⟨n, hN⟩) (accAt (tabs m) (ok0 m hB) (V1 m 0) junkA n) (ix2 s c)
      = Val.seg (ax m) (ids m) (2560 * n) s.val c := by
    unfold start
    match n with
    | 0 => rw [if_pos ((cond1_iff _).mpr hc)]; exact Pay.pay1 _
    | n + 1 => rw [if_neg (fun h => by have := (cond1_iff _).mp h; omega)]; exact accAt_at n (by omega) s c
  rw [Val.seg_succ, ← hstart, accAt, dif_pos hN]
  unfold accStep scatEnd
  have e4 := wb0 m hB (grid0.coords ⟨n, hN⟩)
  have e6 := wn0 m hB (grid0.coords ⟨n, hN⟩)
  rw [hc] at e4 e6
  have ht : (k0_t1_loop (word0 (grid0.coords ⟨n, hN⟩) (tN0 (tabs m)))).trips = Own.nch (ids m) n := by rw [e6, trips0 (by omega)]
  rw [ht, scat_at e4 e6 (by omega) (fun j hj => hB.window hn hj) _ _ _ (fun r => Own.idn (ids m) (2560 * n + r.val))
    (fun r => idn_lt m _) (fun r => (bAt_at (tabs m) (V1 m 0) ⟨n, hN⟩ r ⟨n, hn⟩ rfl).trans (ids_at m hB ⟨n, hn⟩ r)) _ _ le_rfl s c]
  refine congrArg (_ + ·) ?_
  have hadds : adds (fun r => Own.idn (ids m) (2560 * n + r.val)) (xAt (tabs m) (V1 m 0) ⟨n, hN⟩) s.val c = Val.blk (ax m) (ids m) n s.val c := by
    unfold adds Val.blk Val.hit
    exact Finset.sum_congr rfl fun r _ => by rw [rows_at]
  by_cases hs : Own.base (ids m) n ≤ s.val ∧ s.val < Own.base (ids m) n + 128 * Own.nch (ids m) n
  · rw [if_pos hs, hadds]
  · rw [if_neg hs]
    refine (Finset.sum_eq_zero fun r _ => if_neg fun e => hs ?_).symm
    have h1 := hB.base_le hn r.isLt
    have h2 := hB.lt_top hn r.isLt
    omega

/-- The projected sums the first kernel leaves. -/
theorem xm_at (s : Fin 10240) (c : Fin 128) :
    ((dat0 (tabs m) (ok0 m hB) (V1 m 0) 0).arrAt 3 (cfg0 (F := Ideal) (tabs m 0)).N : Vec Ideal S10240x128 .f32) (ix2 s c)
      = Val.prj (ax m) (ids m) (awl m) s.val c := by
  have hN : 124 < (cfg0 (F := Ideal) (tabs m 0)).N := (by omega : 124 < 125).trans_eq N_0.symm
  have hw : ((cfg0 (F := Ideal) (tabs m 0)).win 3).WholeAt ⟨124, hN⟩ :=
    ⟨(flush3 (tabs m) _).mpr rfl, fun t h => Fin.ext ((flush3 (tabs m) t).mp h), Fin.forall_fin_two.mpr ⟨⟨rfl, rfl⟩, ⟨rfl, rfl⟩⟩⟩
  refine ((dat0 (tabs m) (ok0 m hB) (V1 m 0) 0).arrAt_emb_eq_after_last 3 ⟨124, hN⟩ hw (ix2 s c)).trans ?_
  show projAt (tabs m) (ok0 m hB) (V1 m 0) ⟨124, hN⟩ junkA (ix2 s c) = _
  unfold projAt projEnd
  rw [dif_pos ((cond2_iff _).mpr (coords0_val _)), trips4, proj_at _ _ _ _ _ 4 le_rfl s c s.isLt]
  refine Finset.sum_congr rfl fun q _ => ?_
  rw [accAt_at m hB 124 (by omega) s q, wAt_at, v10_at]

/-- A grid point's coordinates. -/
def coord0 (n : ℕ) (h : n < 125) : grid0.Coords
  | ⟨0, _⟩ => ⟨n, h⟩

/-- The rows the first kernel hands on are the rows. -/
theorem xb_at (k : Fin 320000) (c : Fin 128) :
    ((dat0 (tabs m) (ok0 m hB) (V1 m 0) 0).arrAt 4 (cfg0 (F := Ideal) (tabs m 0)).N : Vec Ideal S320000x128 .bf16) (ix2 k c)
      = ax m (ix2 k c) := by
  refine congrFun ((dat0 (tabs m) (ok0 m hB) (V1 m 0) 0).arrAt_eq_of_covers 4 (ax m)
    (Window.covers_of_indexMap_surj _ rfl (Fin.forall_fin_two.mpr ⟨show 0 < 2560 by omega, show 0 < 128 by omega⟩) fun β => ?_) fun t hf y => ?_) (ix2 k c)
  · have hb : (β (0 : Fin 2)).val < 125 := (β (0 : Fin 2)).isLt.trans_le (show (320000 + 2560 - 1) / 2560 ≤ 125 by omega)
    have h1 : (β (1 : Fin 2)).val < 1 := (β (1 : Fin 2)).isLt.trans_le (show (128 + 128 - 1) / 128 ≤ 1 by omega)
    refine ⟨coord0 _ hb, Fin.forall_fin_two.mpr ⟨congrFun (map0_4 (coord0 _ hb)) 0, (congrFun (map0_4 (coord0 _ hb)) 1).trans ?_⟩⟩
    show 0 = (β (1 : Fin 2)).val
    omega
  · have ht : t.val < 125 := t.isLt.trans_eq N_0
    have h0 : (y (0 : Fin 2)).val < 2560 := (y (0 : Fin 2)).isLt
    have h1 : (y (1 : Fin 2)).val < 128 := (y (1 : Fin 2)).isLt
    have hy : ((cfg0 (F := Ideal) (tabs m 0)).win 4).xinj (grid0.coords t) y = (ix2 ⟨_, h0⟩ ⟨_, h1⟩ : S2560x128.Idx) := by
      refine funext fun a => Fin.ext ?_
      match a with
      | ⟨0, _⟩ => rfl
      | ⟨1, _⟩ => rfl
    show k0_pay3 (xAt (tabs m) (V1 m 0) t) (((cfg0 (F := Ideal) (tabs m 0)).win 4).xinj (grid0.coords t) y) = _
    have hk : 2560 * t.val + (y (0 : Fin 2)).val < 320000 := by omega
    refine (congrArg (k0_pay3 (xAt (tabs m) (V1 m 0) t)) hy).trans ((Pay.pay3 _ _ _).trans ?_)
    refine (xAt_at (tabs m) (V1 m 0) t ⟨_, h0⟩ ⟨_, h1⟩ ⟨_, hk⟩ rfl).trans ?_
    refine (congrFun (V1_of m 0 main_arg0 (by decide)) _).trans ?_
    refine congrArg (ax m) (funext fun a => Fin.ext ?_)
    match a with
    | ⟨0, _⟩ =>
      show 2560 * t.val + (y (0 : Fin 2)).val = cc0_transform_4 (grid0.coords t) 0 * 2560 + 1 * (y (0 : Fin 2)).val
      rw [map0_4, coords0_val]; show _ = t.val * 2560 + 1 * (y (0 : Fin 2)).val; omega
    | ⟨1, _⟩ =>
      show (y (1 : Fin 2)).val = cc0_transform_4 (grid0.coords t) 1 * 128 + 1 * (y (1 : Fin 2)).val
      rw [map0_4]; show _ = 0 * 128 + 1 * (y (1 : Fin 2)).val; omega

end Cert.KernelIdeal.Hand

end
-- ==== Proof.KernelIdeal.Result.lean ====
/-
  The result array of the program at exact arithmetic, as a function of the arguments.
-/
module

public import proofs.«01_k».proof.Proof.KernelIdeal.Arrays

@[expose] public section

set_option maxRecDepth 16384

noncomputable section

namespace Cert.KernelIdeal.Hand

open Cert.KernelIdeal Cert.KernelIdeal.Gen
open Idealize.ShloMosaic
open Idealize.ShloMosaic.TcCoe
open Idealize.SL.Sem Idealize.ShloMosaic.StableHlo
open Idealize.ShloMosaic.Pipeline (Dat Window)
open scoped BigOperators

variable (m : (ℓ : Loc nD τ sig) → Buf (Elt Ideal) ℓ)

section Host

variable (h0 : Ok0 (tabs m))

/-- An argument no window of the first kernel is over stands as launched. -/
theorem U2_arg (r : Ref sig .tc) (h1 : ∀ w, r ≠ Pipeline.arrRef spec0 w) (h2 : r ∉ hostOps0_W) :
    U2 m h0 0 (Proc.devRef .tc r) = m (((0 : Dev nD) : Thread nD τ).loc r) :=
  (U2_of_not m h0 0 h1).trans (V1_of m 0 r h2)

/-- The second kernel is given the bias as one row. -/
theorem U3_v14 : (U3 m h0 0 (Proc.devRef .tc main_call0_v14) : Vec Ideal S1x128 .f32) = shapeCast S1x128 (abg m) shapeCasts_S128_S1x128 := by
  have e := U2_arg m h0 main_arg3 (by decide) (by decide)
  unfold U3 hostOps1
  simp only [TRef.reshape, TRef.toBuf, TRef.ofBuf, cast_eq]
  after_results_simp
  exact congrArg (fun v : Val.SV.Idx → EReal => shapeCast S1x128 v shapeCasts_S128_S1x128) e

/-- It is given the scale as one row. -/
theorem U3_v15 : (U3 m h0 0 (Proc.devRef .tc main_call0_v15) : Vec Ideal S1x128 .f32) = shapeCast S1x128 (alw m) shapeCasts_S128_S1x128 := by
  have e := U2_arg m h0 main_arg5 (by decide) (by decide)
  unfold U3 hostOps1
  simp only [TRef.reshape, TRef.toBuf, TRef.ofBuf, cast_eq]
  after_results_simp
  exact congrArg (fun v : Val.SV.Idx → EReal => shapeCast S1x128 v shapeCasts_S128_S1x128) e

/-- It is given the shift as one row. -/
theorem U3_v16 : (U3 m h0 0 (Proc.devRef .tc main_call0_v16) : Vec Ideal S1x128 .f32) = shapeCast S1x128 (alb m) shapeCasts_S128_S1x128 := by
  have e := U2_arg m h0 main_arg6 (by decide) (by decide)
  unfold U3 hostOps1
  simp only [TRef.reshape, TRef.toBuf, TRef.ofBuf, cast_eq]
  after_results_simp
  exact congrArg (fun v : Val.SV.Idx → EReal => shapeCast S1x128 v shapeCasts_S128_S1x128) e

/-- It is given the slope as one entry. -/
theorem U3_v17 : (U3 m h0 0 (Proc.devRef .tc main_call0_v17) : Vec Ideal S1x1 .f32) = shapeCast S1x1 (aal m) shapeCasts_S1_S1x1 := by
  have e := U2_arg m h0 main_arg7 (by decide) (by decide)
  unfold U3 hostOps1
  simp only [TRef.reshape, TRef.toBuf, TRef.ofBuf, cast_eq]
  after_results_simp
  exact congrArg (fun v : Val.SA.Idx → EReal => shapeCast S1x1 v shapeCasts_S1_S1x1) e

/-- A vector as one row. -/
theorem row_at (v : Val.SV.Idx → EReal) (c : Fin 128) :
    (shapeCast S1x128 (v : Vec Ideal S128 .f32) shapeCasts_S128_S1x128 : Vec Ideal S1x128 .f32) (ix2 0 c) = v (Idealize.ShloMosaic.ix1 c) := by
  pointwise

/-- The slope as a one-by-one array. -/
theorem one_at (v : Val.SA.Idx → EReal) :
    (shapeCast S1x1 (v : Vec Ideal S1 .f32) shapeCasts_S1_S1x1 : Vec Ideal S1x1 .f32) (ix2 0 0) = v (Idealize.ShloMosaic.ix1 0) := by
  pointwise

/-- The blocks of ids stand through the first kernel. -/
theorem U3_v9 : U3 m h0 0 (Proc.devRef .tc main_call0_v9) = V1 m 0 (Proc.devRef .tc main_call0_v9) :=
  (U3_of m h0 0 main_call0_v9 (by decide)).trans (U2_in m h0 0 1 rfl)

/-- The first weights stand through the first kernel. -/
theorem U3_v12 : U3 m h0 0 (Proc.devRef .tc main_call0_v12) = V1 m 0 (Proc.devRef .tc main_call0_v12) :=
  (U3_of m h0 0 main_call0_v12 (by decide)).trans (U2_of_not m h0 0 (by decide))

end Host

variable (hB : Own.Sorted (ids m))
include hB

/-- The projected sums the second kernel reads. -/
theorem U3_xm (s : Fin 10240) (c : Fin 128) : (U3 m (ok0 m hB) 0 (Proc.devRef .tc main_call0_v13_0) : Vec Ideal S10240x128 .f32) (ix2 s c)
    = Val.prj (ax m) (ids m) (awl m) s.val c :=
  (congrFun ((U3_of m (ok0 m hB) 0 main_call0_v13_0 (by decide)).trans (U2_arr m (ok0 m hB) 0 3)) _).trans (xm_at m hB s c)

/-- The rows the second kernel reads. -/
theorem U3_xb (k : Fin 320000) (c : Fin 128) : (U3 m (ok0 m hB) 0 (Proc.devRef .tc main_call0_v13_1) : Vec Ideal S320000x128 .bf16) (ix2 k c)
    = ax m (ix2 k c) :=
  (congrFun ((U3_of m (ok0 m hB) 0 main_call0_v13_1 (by decide)).trans (U2_arr m (ok0 m hB) 0 4)) _).trans (xb_at m hB k c)

/-- The ids a point of the second kernel reads. -/
theorem b1_at (t : Fin (cfg1 (F := Ideal) (tabs m 1)).N) (r : Fin 2560) :
    b1At1 (tabs m) (U3 m (ok0 m hB) 0) t (ix3 0 0 r) = BitVec.ofNat 32 (Own.idn (ids m) (2560 * t.val + r.val)) := by
  have ht : t.val < 125 := t.isLt.trans_eq N_1
  have e := b1At1_at (tabs m) (U3 m (ok0 m hB) 0) t r ⟨t.val, ht⟩ rfl
  rw [U3_v9] at e
  exact e.trans (ids_at m hB ⟨t.val, ht⟩ r)

/-- The row a point of the second kernel normalises. -/
theorem hid_at (t : Fin (cfg1 (F := Ideal) (tabs m 1)).N) (r : Fin 2560) (k : Fin 320000) (hk : k.val = 2560 * t.val + r.val) (q : Fin 128) :
    (∑ p : Fin 128, xbAt1 (tabs m) (U3 m (ok0 m hB) 0) t (ix2 r p) * wgAt1 (tabs m) (U3 m (ok0 m hB) 0) t (ix2 p q))
        + bgAt1 (tabs m) (U3 m (ok0 m hB) 0) t (ix2 0 q)
        - rown (xmAt1 (tabs m) (U3 m (ok0 m hB) 0) t) (Own.idn (ids m) (2560 * t.val + r.val)) q
      = Val.hid (ax m) (ids m) (awg m) (abg m) (awl m) k q := by
  have ht : t.val < 125 := t.isLt.trans_eq N_1
  have hp : 0 < Own.nch (ids m) t.val := by unfold Own.nch; omega
  have hid : Own.idn (ids m) (2560 * t.val + r.val) < 10240 := by
    have h1 := hB.lt_top ht r.isLt
    have h2 := hB.window ht (j := Own.nch (ids m) t.val - 1) (by omega)
    omega
  have e1 : (∑ p : Fin 128, xbAt1 (tabs m) (U3 m (ok0 m hB) 0) t (ix2 r p) * wgAt1 (tabs m) (U3 m (ok0 m hB) 0) t (ix2 p q))
      = ∑ p : Fin 128, ax m (ix2 k p) * awg m (ix2 q p) :=
    Finset.sum_congr rfl fun p _ => by
      rw [xbAt1_at (tabs m) _ t r p k hk, U3_xb m hB, wgAt1_at, U3_v12, v12_at]
  have e2 : bgAt1 (tabs m) (U3 m (ok0 m hB) 0) t (ix2 0 q) = abg m (Idealize.ShloMosaic.ix1 q) := by
    rw [bgAt1_at, U3_v14, row_at]
  have e3 : rown (xmAt1 (tabs m) (U3 m (ok0 m hB) 0) t) (Own.idn (ids m) (2560 * t.val + r.val)) q
      = Val.prj (ax m) (ids m) (awl m) (Own.idn (ids m) (2560 * t.val + r.val)) q := by
    unfold rown
    rw [dif_pos hid, xmAt1_at, U3_xm m hB]
  rw [e1, e2, e3, ← hk]
  rfl

/-- What a point of the second kernel leaves. -/
theorem outAt1_at (t : Fin (cfg1 (F := Ideal) (tabs m 1)).N) (r : Fin 2560) (c : Fin 128) (k : Fin 320000) (hk : k.val = 2560 * t.val + r.val) :
    outAt1 (tabs m) (ok1 m hB) (U3 m (ok0 m hB) 0) t (ix2 r c)
      = Val.res (ax m) (ids m) (awg m) (abg m) (awl m) (alw m) (alb m) (aal m) k c := by
  have ht : t.val < 125 := t.isLt.trans_eq N_1
  have e1 := wb1 m hB (grid1.coords t)
  have e3 := wn1 m hB (grid1.coords t)
  rw [coords1_val] at e1 e3
  have hnn := hB.nch_le ht
  have hp : 0 < Own.nch (ids m) t.val := by unfold Own.nch; omega
  have hlw : (fun q : Fin 128 => lwAt1 (tabs m) (U3 m (ok0 m hB) 0) t (ix2 0 q)) = fun q => alw m (Idealize.ShloMosaic.ix1 q) :=
    funext fun q => by rw [lwAt1_at, U3_v15, row_at]
  have hlb : (fun q : Fin 128 => lbAt1 (tabs m) (U3 m (ok0 m hB) 0) t (ix2 0 q)) = fun q => alb m (Idealize.ShloMosaic.ix1 q) :=
    funext fun q => by rw [lbAt1_at, U3_v16, row_at]
  have hal : alAt1 (tabs m) (U3 m (ok0 m hB) 0) t (ix2 0 0) = aal m (Idealize.ShloMosaic.ix1 0) := by rw [alAt1_at, U3_v17, one_at]
  have hh := funext (hid_at m hB t r k hk)
  have hb := b1_at m hB t
  unfold outAt1 Val.res
  rw [← hlw, ← hlb, ← hal, ← hh]
  exact out1_at e1 e3 (by omega) hp (fun j hj => hB.window ht hj) _ _ _ _ _ _ _ _ _ _ (fun r => Own.idn (ids m) (2560 * t.val + r.val))
    (fun r => idn_lt m _) hb (fun r => ⟨hB.base_le ht r.isLt, hB.lt_top ht r.isLt⟩) r c

/-- The result array, as a function of the arguments. -/
def resArr : S320000x128.Idx → EReal :=
  fun i => Val.res (ax m) (ids m) (awg m) (abg m) (awl m) (alw m) (alb m) (aal m) (i 0) (i 1)

/-- A grid point's coordinates. -/
def coord1 (n : ℕ) (h : n < 125) : grid1.Coords
  | ⟨0, _⟩ => ⟨n, h⟩

omit hB in
/-- An array every point's block agrees with is the result array. -/
theorem result_of (a : Tabs (F := Ideal)) (h1 : Ok1 a) (W : Valuation τ sig (Elt Ideal)) (G : S320000x128.Idx → EReal)
    (hG : ∀ (t : Fin (cfg1 (F := Ideal) (a 1)).N) (r : Fin 2560) (c : Fin 128) (k : Fin 320000), k.val = 2560 * t.val + r.val →
      outAt1 a h1 W t (ix2 r c) = G (ix2 k c)) : ((dat1 a h1 W 0).arrAt 8 (cfg1 (F := Ideal) (a 1)).N : Vec Ideal S320000x128 .f32)
    = G := by
  refine (dat1 a h1 W 0).arrAt_eq_of_covers 8
    G
    (Window.covers_of_indexMap_surj _ rfl (Fin.forall_fin_two.mpr ⟨show 0 < 2560 by omega, show 0 < 128 by omega⟩) fun β => ?_) fun t hf y => ?_
  · have hb : (β (0 : Fin 2)).val < 125 := (β (0 : Fin 2)).isLt.trans_le (show (320000 + 2560 - 1) / 2560 ≤ 125 by omega)
    have h1 : (β (1 : Fin 2)).val < 1 := (β (1 : Fin 2)).isLt.trans_le (show (128 + 128 - 1) / 128 ≤ 1 by omega)
    refine ⟨coord1 _ hb, Fin.forall_fin_two.mpr ⟨congrFun (map1_8 (coord1 _ hb)) 0, (congrFun (map1_8 (coord1 _ hb)) 1).trans ?_⟩⟩
    show 0 = (β (1 : Fin 2)).val
    omega
  · have ht : t.val < 125 := t.isLt.trans_eq N_1
    have h0 : (y (0 : Fin 2)).val < 2560 := (y (0 : Fin 2)).isLt
    have hy1 : (y (1 : Fin 2)).val < 128 := (y (1 : Fin 2)).isLt
    have hy : ((cfg1 (F := Ideal) (a 1)).win 8).xinj (grid1.coords t) y = (ix2 ⟨_, h0⟩ ⟨_, hy1⟩ : S2560x128.Idx) := by
      refine funext fun d => Fin.ext ?_
      match d with
      | ⟨0, _⟩ => rfl
      | ⟨1, _⟩ => rfl
    have hk : 2560 * t.val + (y (0 : Fin 2)).val < 320000 := by omega
    refine (cast_eq _ _).trans ?_
    show outAt1 a h1 W t (((cfg1 (F := Ideal) (a 1)).win 8).xinj (grid1.coords t) y) = _
    refine (congrArg (outAt1 a h1 W t) hy).trans ((hG t ⟨_, h0⟩ ⟨_, hy1⟩ ⟨_, hk⟩ rfl).trans ?_)
    refine congrArg (a₁ := (ix2 ⟨_, hk⟩ ⟨_, hy1⟩ : S320000x128.Idx)) G (funext fun d => Fin.ext ?_)
    match d with
    | ⟨0, _⟩ =>
      show 2560 * t.val + (y (0 : Fin 2)).val = cc1_transform_8 (grid1.coords t) 0 * 2560 + 1 * (y (0 : Fin 2)).val
      rw [map1_8, coords1_val]; show _ = t.val * 2560 + 1 * (y (0 : Fin 2)).val; omega
    | ⟨1, _⟩ =>
      show (y (1 : Fin 2)).val = cc1_transform_8 (grid1.coords t) 1 * 128 + 1 * (y (1 : Fin 2)).val
      rw [map1_8]; show _ = 0 * 128 + 1 * (y (1 : Fin 2)).val; omega

/-- The result array. -/
theorem result_eq : ((dat1 (tabs m) (ok1 m hB) (U3 m (ok0 m hB) 0) 0).arrAt 8 (cfg1 (F := Ideal) (tabs m 1)).N : Vec Ideal S320000x128 .f32)
    = resArr m :=
  result_of (tabs m) (ok1 m hB) (U3 m (ok0 m hB) 0) (resArr m) fun t r c k hk => outAt1_at m hB t r c k hk

end Cert.KernelIdeal.Hand

end
-- ==== Proof.Reference.lean ====
/-
  The reference's result at an index: the scatter of the rows by their ids, the projection, the rows taken back by
  id, and the normalisation and activation, which together are `Val.res` when the ids are in range.
-/
module

public import proofs.«01_k».proof.Proof.Spec
public import proofs.«01_k».proof.Proof.Gen.ReferenceIdeal.Run
public import Idealize.ShloMosaic.Lib.Routing.Ops
public import Idealize.ShloMosaic.Lib.Routing.OpsPair
public import Idealize.ShloMosaic.Lib.Tactic.CleanTypes

@[expose] public section

noncomputable section

namespace Cert.ReferenceIdeal.Hand

open Cert.ReferenceIdeal Cert.ReferenceIdeal.Gen Idealize.ShloMosaic Idealize.ShloMosaic.TcCoe
open scoped BigOperators

variable (x : S320000x128.Idx → EReal) (B : IVec S320000 32) (wl : S128x128.Idx → EReal)

/-- The ids as a column. -/
abbrev col : IVec S320000x1 32 := broadcastInDim S320000x1 ![0] bcast_S320000_S320000x1_0 B

/-- The ids with the negative ones wrapped. -/
abbrev wrapped : IVec S320000 32 :=
  select (cmpi .slt B (broadcastInDim S320000 ![] bcast_S_S320000 (constantI S_ 32 0#32)))
    (addi B (broadcastInDim S320000 ![] bcast_S_S320000 (constantI S_ 32 10000#32))) B

/-- The segment sums as the reference states them. -/
abbrev sums : S10000x128.Idx → EReal :=
  Host.scatterAdd (F := Ideal) (φ := .f32) scatter_S10000x128_S320000x1_S320000x128_1_0_0_1
    (broadcastInDim S10000x128 ![] bcast_S_S10000x128 (constant (F := Ideal) S_ .f32 0x00000000#32)) (col B) x

/-- An update lands at the row its id names, in its own column. -/
theorem lands (idx : IVec S320000x1 32) (p : Fin 320000) (q' : Fin 128) (s : Fin 10000) (q : Fin 128) :
    scatter_S10000x128_S320000x1_S320000x128_1_0_0_1.resultIdx? (Idealize.ShloMosaic.ix2 p q') idx = some (Idealize.ShloMosaic.ix2 s q)
      ↔ (idx (Idealize.ShloMosaic.ix2 p 0)).toInt = (s.val : ℤ) ∧ q' = q := by
  refine (Routing.resultIdx?_ix2 _ _ _ s q).trans ?_
  have e0 : scatter_S10000x128_S320000x1_S320000x128_1_0_0_1.start (Idealize.ShloMosaic.ix2 p q') idx 0 = (idx (Idealize.ShloMosaic.ix2 p 0)).toInt := by
    refine congrArg (fun i => (idx i).toInt) (funext fun a => Fin.ext ?_)
    match a with
    | ⟨0, _⟩ => rfl
    | ⟨1, _⟩ => rfl
  have e1 : scatter_S10000x128_S320000x1_S320000x128_1_0_0_1.start (Idealize.ShloMosaic.ix2 p q') idx 1 = 0 := rfl
  have e2 : scatter_S10000x128_S320000x1_S320000x128_1_0_0_1.window (Idealize.ShloMosaic.ix2 p q') 0 = 0 := rfl
  have e3 : scatter_S10000x128_S320000x1_S320000x128_1_0_0_1.window (Idealize.ShloMosaic.ix2 p q') 1 = q'.val := rfl
  rw [e0, e1, e2, e3]
  constructor
  · rintro ⟨h, h'⟩; exact ⟨by omega, Fin.ext (by omega)⟩
  · rintro ⟨h, rfl⟩; exact ⟨by omega, by omega⟩

variable (hB : Own.Sorted B)
include hB

/-- An id as a signed word. -/
theorem id_toInt (p : Fin 320000) : (B (Idealize.ShloMosaic.ix1 p)).toInt = (Own.idn B p.val : ℤ) := by
  have h := hB.lt p.val
  unfold Own.idn at h ⊢
  rw [dif_pos p.isLt] at h ⊢
  exact BitVec.toInt_eq_toNat_of_lt (show 2 * (B (Idealize.ShloMosaic.ix1 p)).toNat < 2 ^ 32 by
    have h : (B (Idealize.ShloMosaic.ix1 p)).toNat < 10000 := h
    omega)

/-- The reference's scatter holds the segment sums. -/
theorem sums_at (s : Fin 10000) (q : Fin 128) : sums x B (Idealize.ShloMosaic.ix2 s q) = Val.seg x B 320000 s.val q := by
  have h0 : sums x B (Idealize.ShloMosaic.ix2 s q)
      = Ideal.ofBits .f32 0x00000000#32
        + ∑ j ∈ Finset.univ.filter (fun j => scatter_S10000x128_S320000x1_S320000x128_1_0_0_1.resultIdx? j (col B) = some (Idealize.ShloMosaic.ix2 s q)), x j := rfl
  rw [h0, Finset.sum_filter, Idealize.ShloMosaic.sum_idx2]
  have hz : Ideal.ofBits .f32 0x00000000#32 = 0 := by simp [Ideal.ofBits, Ideal.ieee]
  rw [hz, zero_add]
  unfold Val.seg
  rw [Finset.sum_range]
  refine Finset.sum_congr rfl fun p _ => ?_
  have hc : col B (Idealize.ShloMosaic.ix2 p 0) = B (Idealize.ShloMosaic.ix1 p) := by unfold col; pointwise
  have hx : Val.xn x p.val q = x (Idealize.ShloMosaic.ix2 p q) := by unfold Val.xn; rw [dif_pos p.isLt]
  unfold Val.hit
  rw [hx]
  rw [Finset.sum_eq_single q]
  · refine if_congr ?_ rfl rfl
    rw [lands, hc, id_toInt B hB]
    omega
  · intro q' _ hq
    exact if_neg fun h => hq ((lands _ _ _ _ _).mp h).2
  · intro h; exact absurd (Finset.mem_univ q) h

/-- The wrap leaves an id as it is. -/
theorem wrapped_eq : wrapped B = B := by
  funext i
  obtain ⟨p, rfl⟩ : ∃ p, i = Idealize.ShloMosaic.ix1 p := ⟨i 0, funext fun a => by match a with | ⟨0, _⟩ => rfl⟩
  have h1 := hB.lt p.val
  have h2 : (B (Idealize.ShloMosaic.ix1 p)).toNat < 10000 := by
    unfold Own.idn at h1; rw [dif_pos p.isLt] at h1; exact h1
  unfold wrapped
  pointwise
  exact Routing.wrap_of_lt _ _ (by omega)

/-- The bits that say an id is in range. -/
abbrev inside : IVec S320000 1 :=
  Host.reduce IntOp.andi (andi (cmpi .sge (col (wrapped B)) (broadcastInDim S320000x1 ![] bcast_S_S320000x1 (constantI S_ 32 0#32)))
    (cmpi .sle (col (wrapped B)) (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

/-- Every id is in range. -/
theorem inside_at (p : Fin 320000) : inside B (Idealize.ShloMosaic.ix1 p) = 1#1 := by
  have h1 := hB.lt p.val
  have h2 := id_toInt B hB p
  unfold inside
  rw [wrapped_eq B hB]
  unfold col
  pointwise
  have e1 : IntOp.cmpi CmpIPredicate.sge (B (Idealize.ShloMosaic.ix1 p)) 0#32 = 1#1 := IntOp.cmpi_sge.2 (by
    rw [h2, show (0#32 : BitVec 32).toInt = 0 from rfl]; omega)
  have e2 : IntOp.cmpi CmpIPredicate.sle (B (Idealize.ShloMosaic.ix1 p)) 9999#32 = 1#1 := IntOp.cmpi_sle.2 (by
    rw [h2, show (9999#32 : BitVec 32).toInt = 9999 from rfl]; omega)
  rw [e1, e2, Finset.univ_unique, Finset.fold_singleton]
  rfl

/-- The projected sums taken back by id, as the reference states them. -/
abbrev taken : S320000x128.Idx → EReal :=
  select (broadcastInDim S320000x128 ![0] bcast_S320000_S320000x128_0 (inside B))
    (Host.gather gather_S10000x128_S320000x1_S320000x128_1_0_n_n_0_1_1128
      (Host.dotGeneral (F := Ideal) (φ₁ := .f32) (φ₂ := .f32) dot_S10000x128_S128x128_S10000x128_1_0_0_1_n_n none (sums x B) (transpose S128x128 [1, 0] wl transposes_S128x128_S128x128_1_0))
      (col (wrapped B)))
    (broadcastInDim S320000x128 ![] bcast_S_S320000x128 (constant (F := Ideal) S_ .f32 0x7FC00000#32))

/-- Row `k` takes its id's projected sum. -/
theorem taken_at (k : Fin 320000) (c : Fin 128) : taken x B wl (Idealize.ShloMosaic.ix2 k c) = Val.prj x B wl (Own.idn B k.val) c := by
  have hk := hB.lt k.val
  have hi := inside_at B hB k
  have hid : B (Idealize.ShloMosaic.ix1 k) = BitVec.ofNat 32 (Own.idn B k.val) := by
    unfold Own.idn; rw [dif_pos k.isLt]; exact BitVec.eq_of_toNat_eq (by rw [BitVec.toNat_ofNat]; exact (Nat.mod_eq_of_lt (BitVec.isLt _)).symm)
  have hg : ∀ T : S10000x128.Idx → EReal, Host.gather gather_S10000x128_S320000x1_S320000x128_1_0_n_n_0_1_1128 T (col (wrapped B)) (Idealize.ShloMosaic.ix2 k c)
      = T (Idealize.ShloMosaic.ix2 ⟨Own.idn B k.val, hk⟩ c) := fun T => by
    refine Routing.gather_row _ rfl rfl rfl rfl rfl T _ k c ⟨Own.idn B k.val, hk⟩ ?_ (by omega)
    rw [wrapped_eq B hB]
    refine Eq.trans ?_ hid
    show col B (Idealize.ShloMosaic.ix2 k 0) = _
    unfold col
    pointwise
  have hd : (Host.dotGeneral (F := Ideal) (φ₁ := .f32) (φ₂ := .f32) dot_S10000x128_S128x128_S10000x128_1_0_0_1_n_n none (sums x B) (transpose S128x128 [1, 0] wl transposes_S128x128_S128x128_1_0)) (Idealize.ShloMosaic.ix2 ⟨Own.idn B k.val, hk⟩ c)
      = Val.prj x B wl (Own.idn B k.val) c := by
    have hs := fun q => sums_at x B hB ⟨Own.idn B k.val, hk⟩ q
    generalize sums x B = T at hs ⊢
    pointwise
    unfold Val.prj
    exact Finset.sum_congr rfl fun q _ => congrArg (· * wl (Idealize.ShloMosaic.ix2 c q)) (hs q)
  have hg := hg (Host.dotGeneral (F := Ideal) (φ₁ := .f32) (φ₂ := .f32) dot_S10000x128_S128x128_S10000x128_1_0_0_1_n_n none (sums x B) (transpose S128x128 [1, 0] wl transposes_S128x128_S128x128_1_0))
  rw [hd] at hg
  unfold taken
  rw [← hg]
  generalize inside B = I at hi ⊢
  generalize Host.gather _ _ _ = G
  pointwise
  rw [hi]
  rfl

omit hB

/-- A column with each row's mean, as the reference states it. -/
abbrev means (H : S320000x128.Idx → EReal) : S320000x1.Idx → EReal :=
  Host.divf (F := Ideal) (φ := .f32) (broadcastInDim S320000x1 ![0] bcast_S320000_S320000x1_0
      (Host.reduceAdd (F := Ideal) (φ := .f32) H (constant (F := Ideal) S_ .f32 0x00000000#32) reducesTo_S320000x128_S320000_d1 h_S_))
    (broadcastInDim S320000x1 ![] bcast_S_S320000x1 (constant (F := Ideal) S_ .f32 0x43000000#32))

/-- The rows less their means. -/
abbrev devs (H : S320000x128.Idx → EReal) : S320000x128.Idx → EReal :=
  subf (F := Ideal) (φ := .f32) H (broadcastInDim S320000x128 ![0, 1] bcast_S320000x1_S320000x128_0_1 (means H))

/-- The rows normalised, scaled and shifted. -/
abbrev normed (H : S320000x128.Idx → EReal) (lw lb : S128.Idx → EReal) : S320000x128.Idx → EReal :=
  addf (F := Ideal) (φ := .f32) (mulf (F := Ideal) (φ := .f32) (Host.divf (F := Ideal) (φ := .f32) (devs H)
      (broadcastInDim S320000x128 ![0, 1] bcast_S320000x1_S320000x128_0_1
        (Host.sqrt (F := Ideal) (φ := .f32) (addf (F := Ideal) (φ := .f32) (means (mulf (F := Ideal) (φ := .f32) (devs H) (devs H)))
          (broadcastInDim S320000x1 ![] bcast_S_S320000x1 (constant (F := Ideal) S_ .f32 0x3727C5AC#32))))))
      (broadcastInDim S320000x128 ![0, 1] bcast_S1x128_S320000x128_0_1 (broadcastInDim S1x128 ![1] bcast_S128_S1x128_1 lw)))
    (broadcastInDim S320000x128 ![0, 1] bcast_S1x128_S320000x128_0_1 (broadcastInDim S1x128 ![1] bcast_S128_S1x128_1 lb))

/-- The activation. -/
abbrev acted (O : S320000x128.Idx → EReal) (al : S1.Idx → EReal) : S320000x128.Idx → EReal :=
  select (cmpf (F := Ideal) (φ := .f32) .oge O (broadcastInDim S320000x128 ![] bcast_S_S320000x128 (constant (F := Ideal) S_ .f32 0x00000000#32))) O
    (mulf (F := Ideal) (φ := .f32) (broadcastInDim S320000x128 ![0, 1] bcast_S1x1_S320000x128_0_1 (broadcastInDim S1x1 ![1] bcast_S1_S1x1_1 al)) O)

/-- The rows before the normalisation. -/
abbrev hidden (wg : S128x128.Idx → EReal) (bg : S128.Idx → EReal) (T : S320000x128.Idx → EReal) : S320000x128.Idx → EReal :=
  subf (F := Ideal) (φ := .f32) (addf (F := Ideal) (φ := .f32)
      (Host.dotGeneral (F := Ideal) (φ₁ := .f32) (φ₂ := .f32) dot_S320000x128_S128x128_S320000x128_1_0_0_1_n_n none x
        (transpose S128x128 [1, 0] wg transposes_S128x128_S128x128_1_0))
      (broadcastInDim S320000x128 ![0, 1] bcast_S1x128_S320000x128_0_1 (broadcastInDim S1x128 ![1] bcast_S128_S1x128_1 bg))) T

/-- The reference's column of means holds each row's mean. -/
theorem means_at (H : S320000x128.Idx → EReal) (k : Fin 320000) :
    means H (Idealize.ShloMosaic.ix2 k 0) = Val.mean (fun q => H (Idealize.ShloMosaic.ix2 k q)) := by
  unfold means Val.mean
  pointwise

/-- The reference's rows less their means are the rows' deviations. -/
theorem devs_at (H : S320000x128.Idx → EReal) (k : Fin 320000) (c : Fin 128) :
    devs H (Idealize.ShloMosaic.ix2 k c) = Val.dev (fun q => H (Idealize.ShloMosaic.ix2 k q)) c := by
  have h := means_at H k
  unfold devs Val.dev
  rw [← h]
  generalize means H = M
  pointwise

/-- The reference's normalisation and activation, at an index. -/
theorem normed_at (H : S320000x128.Idx → EReal) (lw lb : S128.Idx → EReal) (al : S1.Idx → EReal) (k : Fin 320000) (c : Fin 128) :
    acted (normed H lw lb) al (Idealize.ShloMosaic.ix2 k c)
      = Val.norm (fun q => H (Idealize.ShloMosaic.ix2 k q)) (fun q => lw (Idealize.ShloMosaic.ix1 q)) (fun q => lb (Idealize.ShloMosaic.ix1 q))
          (al (Idealize.ShloMosaic.ix1 0)) c := by
  have h1 := means_at (mulf (F := Ideal) (φ := .f32) (devs H) (devs H)) k
  have h2 : ∀ q : Fin 128, mulf (F := Ideal) (φ := .f32) (devs H) (devs H) (Idealize.ShloMosaic.ix2 k q)
      = Val.dev (fun q => H (Idealize.ShloMosaic.ix2 k q)) q * Val.dev (fun q => H (Idealize.ShloMosaic.ix2 k q)) q := fun q => by
    rw [← devs_at]; rfl
  rw [funext h2] at h1
  have h3 := devs_at H k c
  unfold Val.norm Val.den
  rw [← h1, ← h3]
  unfold normed
  generalize means (mulf (F := Ideal) (φ := .f32) (devs H) (devs H)) = M
  generalize devs H = D
  unfold acted Val.act
  pointwise

/-- The reference's rows before the normalisation, at an index, when the ids are in range. -/
theorem hidden_at (hB : Own.Sorted B) (wg : S128x128.Idx → EReal) (bg : S128.Idx → EReal) (k : Fin 320000) (c : Fin 128) :
    hidden x wg bg (taken x B wl) (Idealize.ShloMosaic.ix2 k c) = Val.hid x B wg bg wl k c := by
  have h := taken_at x B wl hB k c
  unfold Val.hid
  rw [← h]
  generalize taken x B wl = T
  unfold hidden
  pointwise

/-- The reference's result at an index. -/
theorem result_at (m : (ℓ : Loc nD τ sig) → Buf (Elt Ideal) ℓ) (hB : Own.Sorted (m ((0 : Dev nD).tc.loc main_arg1) : IVec S320000 32)) (k : Fin 320000) (c : Fin 128) :
    (Value.res_main_v41 (F := Ideal) m 0 : S320000x128.Idx → EReal) (Idealize.ShloMosaic.ix2 k c)
      = Val.res (m ((0 : Dev nD).tc.loc main_arg0)) (m ((0 : Dev nD).tc.loc main_arg1)) (m ((0 : Dev nD).tc.loc main_arg2))
          (m ((0 : Dev nD).tc.loc main_arg3)) (m ((0 : Dev nD).tc.loc main_arg4)) (m ((0 : Dev nD).tc.loc main_arg5))
          (m ((0 : Dev nD).tc.loc main_arg6)) (m ((0 : Dev nD).tc.loc main_arg7)) k c := by
  have h : (Value.res_main_v41 (F := Ideal) m 0 : S320000x128.Idx → EReal)
      = acted (normed (hidden (m ((0 : Dev nD).tc.loc main_arg0)) (m ((0 : Dev nD).tc.loc main_arg2)) (m ((0 : Dev nD).tc.loc main_arg3))
          (taken (m ((0 : Dev nD).tc.loc main_arg0)) (m ((0 : Dev nD).tc.loc main_arg1)) (m ((0 : Dev nD).tc.loc main_arg4))))
          (m ((0 : Dev nD).tc.loc main_arg5)) (m ((0 : Dev nD).tc.loc main_arg6))) (m ((0 : Dev nD).tc.loc main_arg7)) := by
    unfold Value.res_main_v41
    rfl
  rw [h, normed_at, funext fun q => hidden_at _ _ _ hB _ _ k q]
  rfl

end Cert.ReferenceIdeal.Hand

end
-- ==== Proof.Algebraic.lean ====
/-
  The value claim: from equal arguments with sorted ids, the idealized kernel and the reference end with the same
  result, element by element.
-/
module

public import proofs.«01_k».proof.Proof.Frames
public import proofs.«01_k».proof.Proof.KernelIdeal.Result
public import proofs.«01_k».proof.Proof.Reference

@[expose] public section

noncomputable section

namespace Cert.Algebraic

open Idealize.ShloMosaic Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- An argument the two memories agree on, at the one device. -/
abbrev argR (r : Ref Cert.ReferenceIdeal.sig .tc) := m' (((0 : Dev Cert.ReferenceIdeal.nD).tc : Thread Cert.ReferenceIdeal.nD Cert.ReferenceIdeal.τ).loc r)

/-- The reference's result is the kernel's result array. -/
theorem values (hB : Own.Sorted (Cert.KernelIdeal.Hand.ids m))
    (e0 : (argR m' Cert.ReferenceIdeal.main_arg0 : Val.SX.Idx → EReal) = Cert.KernelIdeal.Hand.ax m)
    (e1 : (argR m' Cert.ReferenceIdeal.main_arg1 : Own.SB.Idx → BitVec 32) = Cert.KernelIdeal.Hand.ids m)
    (e2 : (argR m' Cert.ReferenceIdeal.main_arg2 : Val.SW.Idx → EReal) = Cert.KernelIdeal.Hand.awg m)
    (e3 : (argR m' Cert.ReferenceIdeal.main_arg3 : Val.SV.Idx → EReal) = Cert.KernelIdeal.Hand.abg m)
    (e4 : (argR m' Cert.ReferenceIdeal.main_arg4 : Val.SW.Idx → EReal) = Cert.KernelIdeal.Hand.awl m)
    (e5 : (argR m' Cert.ReferenceIdeal.main_arg5 : Val.SV.Idx → EReal) = Cert.KernelIdeal.Hand.alw m)
    (e6 : (argR m' Cert.ReferenceIdeal.main_arg6 : Val.SV.Idx → EReal) = Cert.KernelIdeal.Hand.alb m)
    (e7 : (argR m' Cert.ReferenceIdeal.main_arg7 : Val.SA.Idx → EReal) = Cert.KernelIdeal.Hand.aal m) :
    (Cert.ReferenceIdeal.Value.res_main_v41 (F := Ideal) m' 0 : Val.SX.Idx → EReal) = Cert.KernelIdeal.Hand.resArr m := by
  funext i
  have hi : i = Idealize.ShloMosaic.ix2 (i 0) (i 1) := funext fun a => by
    match a with
    | ⟨0, _⟩ => rfl
    | ⟨1, _⟩ => rfl
  have hB' : Own.Sorted (argR m' Cert.ReferenceIdeal.main_arg1 : Own.SB.Idx → BitVec 32) := by rw [e1]; exact hB
  have h := Cert.ReferenceIdeal.Hand.result_at m' hB' (i 0) (i 1)
  refine (congrArg (Cert.ReferenceIdeal.Value.res_main_v41 (F := Ideal) m' 0 : Val.SX.Idx → EReal) hi).trans (h.trans ?_)
  change Val.res (argR m' Cert.ReferenceIdeal.main_arg0) (argR m' Cert.ReferenceIdeal.main_arg1) (argR m' Cert.ReferenceIdeal.main_arg2)
    (argR m' Cert.ReferenceIdeal.main_arg3) (argR m' Cert.ReferenceIdeal.main_arg4) (argR m' Cert.ReferenceIdeal.main_arg5)
    (argR m' Cert.ReferenceIdeal.main_arg6) (argR m' Cert.ReferenceIdeal.main_arg7) (i 0) (i 1) = _
  rw [e0, e1, e2, e3, e4, e5, e6, e7]
  rfl

/-- The kernel's result on device `c`. -/
def out (hB : Own.Sorted (Cert.KernelIdeal.Hand.ids m)) (c : Dev Cert.KernelIdeal.nD) :
    Buf (Elt Ideal) ((c.tc : Thread Cert.KernelIdeal.nD Cert.KernelIdeal.τ).loc Cert.KernelIdeal.main_v0) :=
  (Cert.KernelIdeal.Hand.dat1 (Cert.KernelIdeal.Hand.tabs m) (Cert.KernelIdeal.Hand.ok1 m hB)
    (Cert.KernelIdeal.Hand.U3 m (Cert.KernelIdeal.Hand.ok0 m hB) c) c).arrAt 8 (Cert.KernelIdeal.cfg1 (F := Ideal) (Cert.KernelIdeal.Hand.tabs m 1)).N

/-- It is the result array. -/
theorem out_eq (hB : Own.Sorted (Cert.KernelIdeal.Hand.ids m)) : (out m hB 0 : Val.SX.Idx → EReal) = Cert.KernelIdeal.Hand.resArr m :=
  Cert.KernelIdeal.Hand.result_eq m hB

/-- The value claim. -/
theorem algebraic : Cert.algebraic_KernelIdeal_ReferenceIdeal := fun m g m' g' h ha => by
  have hB := Frames.sorted_ideal m h
  have hv : ∀ c : Dev Cert.KernelIdeal.nD, Cert.ReferenceIdeal.Value.res_main_v41 (F := Ideal) m' c = out m hB c := fun c => by
    obtain rfl : c = (0 : Fin 1) := Subsingleton.elim _ _
    obtain ⟨a0, a1, a2, a3, a4, a5, a6, a7⟩ := ha 0
    exact (values m m' hB a0 a1 a2 a3 a4 a5 a6 a7).trans (out_eq m hB).symm
  have hk := Cert.KernelIdeal.Hand.run_main m (Cert.KernelIdeal.Hand.ok0 m hB) (Cert.KernelIdeal.Hand.ok1 m hB) g
  have hr := Cert.ReferenceIdeal.Value.run m' g'
  refine ⟨out m hB, ?_, ?_⟩
  · exact (θ_run _ _ _).mono (fun _ h => h.1) hk
  · refine (θ_run _ _ _).mono (fun r h c => ?_) hr
    have h' := h c
    rw [hv c] at h'
    exact h'

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.ReferenceIdeal
public import proofs.«01_k».proof.Proof.Gen.ReferenceIdeal.Run
public import proofs.«01_k».proof.Proof.Gen.Pre_sorted_ids
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, each by its own theorem. -/
theorem claim : Cert.Claim := ⟨Cert.Kernel.Gen.facts, Cert.KernelIdeal.Gen.facts, Cert.ReferenceIdeal.Gen.facts, Cert.Pre_sorted_ids.Gen.facts,
  Cert.Frames.kernel, Cert.Frames.kernelIdeal, Cert.Frames.reference, Cert.Frames.reference_sorted, trivial, Cert.Algebraic.algebraic⟩

end Cert.Proof

end
